-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_rois_in_range [hPre_rois_in_range : Cert.Pre_rois_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_rois_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rois_in_range [hPre_rois_in_range : Cert.Pre_rois_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rois_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rois_in_range [hKernelIdeal : Cert.KernelIdeal.Facts] [hPre_rois_in_range : Cert.Pre_rois_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rois_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rois_in_range [hReferenceIdeal : Cert.ReferenceIdeal.Facts] [hPre_rois_in_range : Cert.Pre_rois_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rois_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_rois_in_range [hKernelIdeal : Cert.KernelIdeal.Facts] [hReferenceIdeal : Cert.ReferenceIdeal.Facts] [hPre_rois_in_range : Cert.Pre_rois_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rois_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v208) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_rois_in_range : Cert.Pre_rois_in_range.Facts),
    quiescent_Kernel (hKernel := hKernel)
    ∧ quiescent_KernelIdeal (hKernelIdeal := hKernelIdeal)
    ∧ quiescent_KernelIdeal_pre_rois_in_range (hKernelIdeal := hKernelIdeal) (hPre_rois_in_range := hPre_rois_in_range)
    ∧ quiescent_ReferenceIdeal (hReferenceIdeal := hReferenceIdeal)
    ∧ quiescent_ReferenceIdeal_pre_rois_in_range (hReferenceIdeal := hReferenceIdeal) (hPre_rois_in_range := hPre_rois_in_range)
    ∧ preserves_Kernel_KernelIdeal
    ∧ algebraic_KernelIdeal_ReferenceIdeal_pre_rois_in_range (hKernelIdeal := hKernelIdeal) (hReferenceIdeal := hReferenceIdeal) (hPre_rois_in_range := hPre_rois_in_range)
-- ==== Pre_rois_in_range.lean ====
abbrev S4x128x128x256 : Shape := ⟨4, ![4, 128, 128, 256]⟩
abbrev S4x128x4 : Shape := ⟨3, ![4, 128, 4]⟩
abbrev S_ : Shape := ⟨0, ![]⟩

class Facts : Prop where
  bcast_S_S4x128x4 : S_.BroadcastsInDim S4x128x4 (![] : Fin 0 → Fin S4x128x4.rank)
  reducesTo_S4x128x4_S_d0_1_2 : S4x128x4.ReducesTo [0, 1, 2] S_
  h_S_ : 0 < S_.numel

variable [Facts]

def fn {F : FTy → Type} [FloatOps F] (main_arg0 : FVec F S4x128x128x256 .f32) (main_arg1 : FVec F S4x128x4 .f32) : IVec S_ 1 :=
  let main_cst : FVec F S_ .f32 := constant S_ .f32 0x00000000#32
  let main_v0 : FVec F S4x128x4 .f32 := broadcastInDim S4x128x4 ![] bcast_S_S4x128x4 main_cst
  let main_v1 : IVec S4x128x4 1 := cmpf .oge main_arg1 main_v0
  let main_cst_0 : FVec F S_ .f32 := constant S_ .f32 0x40800000#32
  let main_v2 : FVec F S4x128x4 .f32 := broadcastInDim S4x128x4 ![] bcast_S_S4x128x4 main_cst_0
  let main_v3 : IVec S4x128x4 1 := cmpf .ole main_arg1 main_v2
  let main_v4 : IVec S4x128x4 1 := andi main_v1 main_v3
  let main_c : IVec S_ 1 := constantI S_ 1 1#1
  let main_v5 : IVec S_ 1 := (fun x v => Host.reduce IntOp.andi x v reducesTo_S4x128x4_S_d0_1_2 h_S_) main_v4 main_c
  main_v5
-- ==== Kernel.lean ====
abbrev S4x128x128x256 : Shape := ⟨4, ![4, 128, 128, 256]⟩
abbrev S4x128x4 : Shape := ⟨3, ![4, 128, 4]⟩
abbrev S4x128x14x14x256 : Shape := ⟨5, ![4, 128, 14, 14, 256]⟩
abbrev S4x8x8x256 : Shape := ⟨4, ![4, 8, 8, 256]⟩
abbrev S4x16x14x14x256 : Shape := ⟨5, ![4, 16, 14, 14, 256]⟩
abbrev S4 : Shape := ⟨1, ![4]⟩
abbrev S1x16x4 : Shape := ⟨3, ![1, 16, 4]⟩
abbrev S16x4 : Shape := ⟨2, ![16, 4]⟩
abbrev S16x1 : Shape := ⟨2, ![16, 1]⟩
abbrev S16 : Shape := ⟨1, ![16]⟩
abbrev S16x14 : Shape := ⟨2, ![16, 14]⟩
abbrev S1x8x8x256 : Shape := ⟨4, ![1, 8, 8, 256]⟩
abbrev S8x8x256 : Shape := ⟨3, ![8, 8, 256]⟩
abbrev S1x1x256 : Shape := ⟨3, ![1, 1, 256]⟩
abbrev S256 : Shape := ⟨1, ![256]⟩
abbrev S16x14x1 : Shape := ⟨3, ![16, 14, 1]⟩
abbrev S16x14x256 : Shape := ⟨3, ![16, 14, 256]⟩
abbrev S16x1x14x256 : Shape := ⟨4, ![16, 1, 14, 256]⟩
abbrev S16x14x1x1 : Shape := ⟨4, ![16, 14, 1, 1]⟩
abbrev S16x14x14x256 : Shape := ⟨4, ![16, 14, 14, 256]⟩
abbrev S1x16x14x14x256 : Shape := ⟨5, ![1, 16, 14, 14, 256]⟩
abbrev S1 : Shape := ⟨1, ![1]⟩
abbrev S_ : Shape := ⟨0, ![]⟩

abbrev nBuf : Space → Nat
  | .hbm => 3
  | .vmem => 3
  | .smem => 0
  | _ => 0

abbrev bufTy : (tb : Table) → Fin (tcTables nBuf tb) → BufTy
  | .hbm, ⟨0, _⟩ => ⟨S4x128x128x256, .f32⟩
  | .hbm, ⟨1, _⟩ => ⟨S4x128x4, .f32⟩
  | .hbm, ⟨2, _⟩ => ⟨S4x128x14x14x256, .f32⟩
  | .local _ .vmem, ⟨0, _⟩ => ⟨S4x128x4, .f32⟩
  | .local _ .vmem, ⟨1, _⟩ => ⟨S4x8x8x256, .f32⟩
  | .local _ .vmem, ⟨2, _⟩ => ⟨S4x16x14x14x256, .f32⟩
  | _, _ => ⟨S4x128x128x256, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 1 → Memref sig .tc .vmem S4x128x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4x8x8x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== ReferenceIdeal.lean ====
abbrev S4x128x128x256 : Shape := ⟨4, ![4, 128, 128, 256]⟩
abbrev S4x128x4 : Shape := ⟨3, ![4, 128, 4]⟩
abbrev S4x128x1 : Shape := ⟨3, ![4, 128, 1]⟩
abbrev S_ : Shape := ⟨0, ![]⟩
abbrev S512x4 : Shape := ⟨2, ![512, 4]⟩
abbrev S4 : Shape := ⟨1, ![4]⟩
abbrev S4x128 : Shape := ⟨2, ![4, 128]⟩
abbrev S512 : Shape := ⟨1, ![512]⟩
abbrev S512x1 : Shape := ⟨2, ![512, 1]⟩
abbrev S14 : Shape := ⟨1, ![14]⟩
abbrev S1x14 : Shape := ⟨2, ![1, 14]⟩
abbrev S512x14 : Shape := ⟨2, ![512, 14]⟩
abbrev S512x1x1 : Shape := ⟨3, ![512, 1, 1]⟩
abbrev S512x14x1 : Shape := ⟨3, ![512, 14, 1]⟩
abbrev S512x1x14 : Shape := ⟨3, ![512, 1, 14]⟩
abbrev S512x14x14 : Shape := ⟨3, ![512, 14, 14]⟩
abbrev S512x14x14x1 : Shape := ⟨4, ![512, 14, 14, 1]⟩
abbrev S512x14x14x3 : Shape := ⟨4, ![512, 14, 14, 3]⟩
abbrev S512x14x14x256 : Shape := ⟨4, ![512, 14, 14, 256]⟩
abbrev S512x1x14x1 : Shape := ⟨4, ![512, 1, 14, 1]⟩
abbrev S512x14x1x1 : Shape := ⟨4, ![512, 14, 1, 1]⟩
abbrev S4x128x14x14x256 : Shape := ⟨5, ![4, 128, 14, 14, 256]⟩

abbrev nBuf : Space → Nat
  | .hbm => 279
  | .vmem => 0
  | .smem => 0
  | _ => 0

abbrev hbmTy0_0 (i : Nat) : BufTy := match i % 128 with
  | 0 => ⟨S4x128x128x256, .f32⟩
  | 1 => ⟨S4x128x4, .f32⟩
  | 2 => ⟨S4x128x1, .f32⟩
  | 3 => ⟨S4x128x1, .f32⟩
  | 4 => ⟨S4x128x1, .f32⟩
  | 5 => ⟨S4x128x1, .f32⟩
  | 6 => ⟨S_, .f32⟩
  | 7 => ⟨S4x128x1, .f32⟩
  | 8 => ⟨S4x128x1, .f32⟩
  | 9 => ⟨S_, .f32⟩
  | 10 => ⟨S4x128x1, .f32⟩
  | 11 => ⟨S4x128x1, .f32⟩
  | 12 => ⟨S_, .f32⟩
  | 13 => ⟨S4x128x1, .f32⟩
  | 14 => ⟨S4x128x1, .f32⟩
  | 15 => ⟨S_, .f32⟩
  | 16 => ⟨S4x128x1, .f32⟩
  | 17 => ⟨S4x128x1, .f32⟩
  | 18 => ⟨S4x128x4, .f32⟩
  | 19 => ⟨S512x4, .f32⟩
  | 20 => ⟨S4, .i32⟩
  | 21 => ⟨S4x128, .i32⟩
  | 22 => ⟨S512, .i32⟩
  | 23 => ⟨S512x1, .f32⟩
  | 24 => ⟨S512, .f32⟩
  | 25 => ⟨S512x1, .f32⟩
  | 26 => ⟨S512, .f32⟩
  | 27 => ⟨S512x1, .f32⟩
  | 28 => ⟨S512, .f32⟩
  | 29 => ⟨S512x1, .f32⟩
  | 30 => ⟨S512, .f32⟩
  | 31 => ⟨S512, .f32⟩
  | 32 => ⟨S_, .f32⟩
  | 33 => ⟨S512, .f32⟩
  | 34 => ⟨S512, .f32⟩
  | 35 => ⟨S_, .f32⟩
  | 36 => ⟨S512, .f32⟩
  | 37 => ⟨S512, .f32⟩
  | 38 => ⟨S512, .f32⟩
  | 39 => ⟨S_, .f32⟩
  | 40 => ⟨S512, .f32⟩
  | 41 => ⟨S512, .f32⟩
  | 42 => ⟨S_, .f32⟩
  | 43 => ⟨S512, .f32⟩
  | 44 => ⟨S512, .f32⟩
  | 45 => ⟨S512x1, .f32⟩
  | 46 => ⟨S_, .f32⟩
  | 47 => ⟨S512x1, .f32⟩
  | 48 => ⟨S512x1, .f32⟩
  | 49 => ⟨S14, .f32⟩
  | 50 => ⟨S1x14, .f32⟩
  | 51 => ⟨S512x1, .f32⟩
  | 52 => ⟨S512x14, .f32⟩
  | 53 => ⟨S512x14, .f32⟩
  | 54 => ⟨S512x14, .f32⟩
  | 55 => ⟨S512x14, .f32⟩
  | 56 => ⟨S512x14, .f32⟩
  | 57 => ⟨S512x1, .f32⟩
  | 58 => ⟨S_, .f32⟩
  | 59 => ⟨S512x1, .f32⟩
  | 60 => ⟨S512x1, .f32⟩
  | 61 => ⟨S14, .f32⟩
  | 62 => ⟨S1x14, .f32⟩
  | 63 => ⟨S512x1, .f32⟩
  | 64 => ⟨S512x14, .f32⟩
  | 65 => ⟨S512x14, .f32⟩
  | 66 => ⟨S512x14, .f32⟩
  | 67 => ⟨S512x14, .f32⟩
  | 68 => ⟨S512x14, .f32⟩
  | 69 => ⟨S_, .f32⟩
  | 70 => ⟨S512x14, .f32⟩
  | 71 => ⟨S512x14, .i1⟩
  | 72 => ⟨S_, .f32⟩
  | 73 => ⟨S512x14, .f32⟩
  | 74 => ⟨S512x14, .i1⟩
  | 75 => ⟨S512x14, .i1⟩
  | 76 => ⟨S_, .f32⟩
  | 77 => ⟨S512x14, .f32⟩
  | 78 => ⟨S512x14, .i1⟩
  | 79 => ⟨S_, .f32⟩
  | 80 => ⟨S512x14, .f32⟩
  | 81 => ⟨S512x14, .i1⟩
  | 82 => ⟨S512x14, .i1⟩
  | 83 => ⟨S512x14, .f32⟩
  | 84 => ⟨S512x14, .f32⟩
  | 85 => ⟨S512x14, .f32⟩
  | 86 => ⟨S512x14, .f32⟩
  | 87 => ⟨S_, .i32⟩
  | 88 => ⟨S_, .i32⟩
  | 89 => ⟨S_, .f32⟩
  | 90 => ⟨S512x14, .f32⟩
  | 91 => ⟨S512x14, .f32⟩
  | 92 => ⟨S_, .f32⟩
  | 93 => ⟨S512x14, .f32⟩
  | 94 => ⟨S512x14, .f32⟩
  | 95 => ⟨S512x14, .i32⟩
  | 96 => ⟨S_, .f32⟩
  | 97 => ⟨S512x14, .f32⟩
  | 98 => ⟨S512x14, .f32⟩
  | 99 => ⟨S_, .i32⟩
  | 100 => ⟨S_, .i32⟩
  | 101 => ⟨S_, .f32⟩
  | 102 => ⟨S512x14, .f32⟩
  | 103 => ⟨S512x14, .f32⟩
  | 104 => ⟨S_, .f32⟩
  | 105 => ⟨S512x14, .f32⟩
  | 106 => ⟨S512x14, .f32⟩
  | 107 => ⟨S512x14, .i32⟩
  | 108 => ⟨S_, .i32⟩
  | 109 => ⟨S_, .i32⟩
  | 110 => ⟨S_, .f32⟩
  | 111 => ⟨S512x14, .f32⟩
  | 112 => ⟨S512x14, .f32⟩
  | 113 => ⟨S_, .f32⟩
  | 114 => ⟨S512x14, .f32⟩
  | 115 => ⟨S512x14, .f32⟩
  | 116 => ⟨S512x14, .i32⟩
  | 117 => ⟨S_, .f32⟩
  | 118 => ⟨S512x14, .f32⟩
  | 119 => ⟨S512x14, .f32⟩
  | 120 => ⟨S_, .i32⟩
  | 121 => ⟨S_, .i32⟩
  | 122 => ⟨S_, .f32⟩
  | 123 => ⟨S512x14, .f32⟩
  | 124 => ⟨S512x14, .f32⟩
  | 125 => ⟨S_, .f32⟩
  | 126 => ⟨S512x14, .f32⟩
  | 127 => ⟨S512x14, .f32⟩
  | _ => ⟨S4x128x128x256, .f32⟩

abbrev hbmTy0_1 (i : Nat) : BufTy := match i % 128 with
  | 0 => ⟨S512x14, .i32⟩
  | 1 => ⟨S512x1x1, .i32⟩
  | 2 => ⟨S512x14x1, .i32⟩
  | 3 => ⟨S512x1x14, .i32⟩
  | 4 => ⟨S_, .i32⟩
  | 5 => ⟨S512x1x1, .i32⟩
  | 6 => ⟨S512x1x1, .i1⟩
  | 7 => ⟨S_, .i32⟩
  | 8 => ⟨S512x1x1, .i32⟩
  | 9 => ⟨S512x1x1, .i32⟩
  | 10 => ⟨S512x1x1, .i32⟩
  | 11 => ⟨S_, .i32⟩
  | 12 => ⟨S512x14x1, .i32⟩
  | 13 => ⟨S512x14x1, .i1⟩
  | 14 => ⟨S_, .i32⟩
  | 15 => ⟨S512x14x1, .i32⟩
  | 16 => ⟨S512x14x1, .i32⟩
  | 17 => ⟨S512x14x1, .i32⟩
  | 18 => ⟨S_, .i32⟩
  | 19 => ⟨S512x1x14, .i32⟩
  | 20 => ⟨S512x1x14, .i1⟩
  | 21 => ⟨S_, .i32⟩
  | 22 => ⟨S512x1x14, .i32⟩
  | 23 => ⟨S512x1x14, .i32⟩
  | 24 => ⟨S512x1x14, .i32⟩
  | 25 => ⟨S512x14x14, .i32⟩
  | 26 => ⟨S512x14x14, .i32⟩
  | 27 => ⟨S512x14x14, .i32⟩
  | 28 => ⟨S512x14x14x1, .i32⟩
  | 29 => ⟨S512x14x14x1, .i32⟩
  | 30 => ⟨S512x14x14x1, .i32⟩
  | 31 => ⟨S512x14x14x3, .i32⟩
  | 32 => ⟨S512x14x14x256, .f32⟩
  | 33 => ⟨S512x14x1, .i32⟩
  | 34 => ⟨S512x1x14, .i32⟩
  | 35 => ⟨S_, .i32⟩
  | 36 => ⟨S512x1x1, .i32⟩
  | 37 => ⟨S512x1x1, .i1⟩
  | 38 => ⟨S_, .i32⟩
  | 39 => ⟨S512x1x1, .i32⟩
  | 40 => ⟨S512x1x1, .i32⟩
  | 41 => ⟨S512x1x1, .i32⟩
  | 42 => ⟨S_, .i32⟩
  | 43 => ⟨S512x14x1, .i32⟩
  | 44 => ⟨S512x14x1, .i1⟩
  | 45 => ⟨S_, .i32⟩
  | 46 => ⟨S512x14x1, .i32⟩
  | 47 => ⟨S512x14x1, .i32⟩
  | 48 => ⟨S512x14x1, .i32⟩
  | 49 => ⟨S_, .i32⟩
  | 50 => ⟨S512x1x14, .i32⟩
  | 51 => ⟨S512x1x14, .i1⟩
  | 52 => ⟨S_, .i32⟩
  | 53 => ⟨S512x1x14, .i32⟩
  | 54 => ⟨S512x1x14, .i32⟩
  | 55 => ⟨S512x1x14, .i32⟩
  | 56 => ⟨S512x14x14, .i32⟩
  | 57 => ⟨S512x14x14, .i32⟩
  | 58 => ⟨S512x14x14, .i32⟩
  | 59 => ⟨S512x14x14x1, .i32⟩
  | 60 => ⟨S512x14x14x1, .i32⟩
  | 61 => ⟨S512x14x14x1, .i32⟩
  | 62 => ⟨S512x14x14x3, .i32⟩
  | 63 => ⟨S512x14x14x256, .f32⟩
  | 64 => ⟨S512x14x1, .i32⟩
  | 65 => ⟨S512x1x14, .i32⟩
  | 66 => ⟨S_, .i32⟩
  | 67 => ⟨S512x1x1, .i32⟩
  | 68 => ⟨S512x1x1, .i1⟩
  | 69 => ⟨S_, .i32⟩
  | 70 => ⟨S512x1x1, .i32⟩
  | 71 => ⟨S512x1x1, .i32⟩
  | 72 => ⟨S512x1x1, .i32⟩
  | 73 => ⟨S_, .i32⟩
  | 74 => ⟨S512x14x1, .i32⟩
  | 75 => ⟨S512x14x1, .i1⟩
  | 76 => ⟨S_, .i32⟩
  | 77 => ⟨S512x14x1, .i32⟩
  | 78 => ⟨S512x14x1, .i32⟩
  | 79 => ⟨S512x14x1, .i32⟩
  | 80 => ⟨S_, .i32⟩
  | 81 => ⟨S512x1x14, .i32⟩
  | 82 => ⟨S512x1x14, .i1⟩
  | 83 => ⟨S_, .i32⟩
  | 84 => ⟨S512x1x14, .i32⟩
  | 85 => ⟨S512x1x14, .i32⟩
  | 86 => ⟨S512x1x14, .i32⟩
  | 87 => ⟨S512x14x14, .i32⟩
  | 88 => ⟨S512x14x14, .i32⟩
  | 89 => ⟨S512x14x14, .i32⟩
  | 90 => ⟨S512x14x14x1, .i32⟩
  | 91 => ⟨S512x14x14x1, .i32⟩
  | 92 => ⟨S512x14x14x1, .i32⟩
  | 93 => ⟨S512x14x14x3, .i32⟩
  | 94 => ⟨S512x14x14x256, .f32⟩
  | 95 => ⟨S512x14x1, .i32⟩
  | 96 => ⟨S512x1x14, .i32⟩
  | 97 => ⟨S_, .i32⟩
  | 98 => ⟨S512x1x1, .i32⟩
  | 99 => ⟨S512x1x1, .i1⟩
  | 100 => ⟨S_, .i32⟩
  | 101 => ⟨S512x1x1, .i32⟩
  | 102 => ⟨S512x1x1, .i32⟩
  | 103 => ⟨S512x1x1, .i32⟩
  | 104 => ⟨S_, .i32⟩
  | 105 => ⟨S512x14x1, .i32⟩
  | 106 => ⟨S512x14x1, .i1⟩
  | 107 => ⟨S_, .i32⟩
  | 108 => ⟨S512x14x1, .i32⟩
  | 109 => ⟨S512x14x1, .i32⟩
  | 110 => ⟨S512x14x1, .i32⟩
  | 111 => ⟨S_, .i32⟩
  | 112 => ⟨S512x1x14, .i32⟩
  | 113 => ⟨S512x1x14, .i1⟩
  | 114 => ⟨S_, .i32⟩
  | 115 => ⟨S512x1x14, .i32⟩
  | 116 => ⟨S512x1x14, .i32⟩
  | 117 => ⟨S512x1x14, .i32⟩
  | 118 => ⟨S512x14x14, .i32⟩
  | 119 => ⟨S512x14x14, .i32⟩
  | 120 => ⟨S512x14x14, .i32⟩
  | 121 => ⟨S512x14x14x1, .i32⟩
  | 122 => ⟨S512x14x14x1, .i32⟩
  | 123 => ⟨S512x14x14x1, .i32⟩
  | 124 => ⟨S512x14x14x3, .i32⟩
  | 125 => ⟨S512x14x14x256, .f32⟩
  | 126 => ⟨S512x14x14x256, .f32⟩
  | 127 => ⟨S512x1x14x1, .f32⟩
  | _ => ⟨S4x128x128x256, .f32⟩

abbrev hbmTy0_2 (i : Nat) : BufTy := match i % 128 with
  | 0 => ⟨S512x14x14x256, .f32⟩
  | 1 => ⟨S512x14x14x256, .f32⟩
  | 2 => ⟨S512x14x14x256, .f32⟩
  | 3 => ⟨S512x14x14x256, .f32⟩
  | 4 => ⟨S512x1x14x1, .f32⟩
  | 5 => ⟨S512x14x14x256, .f32⟩
  | 6 => ⟨S512x14x14x256, .f32⟩
  | 7 => ⟨S512x14x14x256, .f32⟩
  | 8 => ⟨S512x14x14x256, .f32⟩
  | 9 => ⟨S512x14x1x1, .f32⟩
  | 10 => ⟨S512x14x14x256, .f32⟩
  | 11 => ⟨S512x14x14x256, .f32⟩
  | 12 => ⟨S512x14x14x256, .f32⟩
  | 13 => ⟨S512x14x1, .i1⟩
  | 14 => ⟨S512x1x14, .i1⟩
  | 15 => ⟨S512x14x14, .i1⟩
  | 16 => ⟨S512x14x14, .i1⟩
  | 17 => ⟨S512x14x14, .i1⟩
  | 18 => ⟨S512x14x14, .f32⟩
  | 19 => ⟨S512x14x14x1, .f32⟩
  | 20 => ⟨S512x14x14x256, .f32⟩
  | 21 => ⟨S512x14x14x256, .f32⟩
  | 22 => ⟨S4x128x14x14x256, .f32⟩
  | _ => ⟨S4x128x128x256, .f32⟩

abbrev hbmTy (i : Nat) : BufTy := match i / 128 with
  | 0 => hbmTy0_0 i
  | 1 => hbmTy0_1 i
  | 2 => hbmTy0_2 i
  | _ => ⟨S4x128x128x256, .f32⟩

abbrev bufTy : (tb : Table) → Fin (tcTables nBuf tb) → BufTy
  | .hbm, ⟨i, _⟩ => hbmTy i
  | _, _ => ⟨S4x128x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_3 : Ref sig .tc := ⟨.hbm, 32, rfl⟩
abbrev main_v26 : Ref sig .tc := ⟨.hbm, 33, rfl⟩
abbrev main_v27 : Ref sig .tc := ⟨.hbm, 34, rfl⟩
abbrev main_cst_4 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_5 : Ref sig .tc := ⟨.hbm, 39, rfl⟩
abbrev main_v31 : Ref sig .tc := ⟨.hbm, 40, rfl⟩
abbrev main_v32 : Ref sig .tc := ⟨.hbm, 41, rfl⟩
abbrev main_cst_6 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_7 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_cst_8 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_cst_9 : Ref sig .tc := ⟨.hbm, 69, rfl⟩
abbrev main_v57 : Ref sig .tc := ⟨.hbm, 70, rfl⟩
abbrev main_v58 : Ref sig .tc := ⟨.hbm, 71, rfl⟩
abbrev main_cst_10 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_cst_11 : Ref sig .tc := ⟨.hbm, 76, rfl⟩
abbrev main_v62 : Ref sig .tc := ⟨.hbm, 77, rfl⟩
abbrev main_v63 : Ref sig .tc := ⟨.hbm, 78, rfl⟩
abbrev main_cst_12 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_c : Ref sig .tc := ⟨.hbm, 87, rfl⟩
abbrev main_c_13 : Ref sig .tc := ⟨.hbm, 88, rfl⟩
abbrev main_call0_v0 : Ref sig .tc := ⟨.hbm, 89, rfl⟩
abbrev main_call0_v1 : Ref sig .tc := ⟨.hbm, 90, rfl⟩
abbrev main_call0_v2 : Ref sig .tc := ⟨.hbm, 91, rfl⟩
abbrev main_call0_v3 : Ref sig .tc := ⟨.hbm, 92, rfl⟩
abbrev main_call0_v4 : Ref sig .tc := ⟨.hbm, 93, rfl⟩
abbrev main_v71 : Ref sig .tc := ⟨.hbm, 94, rfl⟩
abbrev main_v72 : Ref sig .tc := ⟨.hbm, 95, rfl⟩
abbrev main_cst_14 : Ref sig .tc := ⟨.hbm, 96, rfl⟩
abbrev main_v73 : Ref sig .tc := ⟨.hbm, 97, rfl⟩
abbrev main_v74 : Ref sig .tc := ⟨.hbm, 98, rfl⟩
abbrev main_c_15 : Ref sig .tc := ⟨.hbm, 99, rfl⟩
abbrev main_c_16 : Ref sig .tc := ⟨.hbm, 100, rfl⟩
abbrev main_call1_v0 : Ref sig .tc := ⟨.hbm, 101, rfl⟩
abbrev main_call1_v1 : Ref sig .tc := ⟨.hbm, 102, rfl⟩
abbrev main_call1_v2 : Ref sig .tc := ⟨.hbm, 103, rfl⟩
abbrev main_call1_v3 : Ref sig .tc := ⟨.hbm, 104, rfl⟩
abbrev main_call1_v4 : Ref sig .tc := ⟨.hbm, 105, rfl⟩
abbrev main_v75 : Ref sig .tc := ⟨.hbm, 106, rfl⟩
abbrev main_v76 : Ref sig .tc := ⟨.hbm, 107, rfl⟩
abbrev main_c_17 : Ref sig .tc := ⟨.hbm, 108, rfl⟩
abbrev main_c_18 : Ref sig .tc := ⟨.hbm, 109, rfl⟩
abbrev main_call2_v0 : Ref sig .tc := ⟨.hbm, 110, rfl⟩
abbrev main_call2_v1 : Ref sig .tc := ⟨.hbm, 111, rfl⟩
abbrev main_call2_v2 : Ref sig .tc := ⟨.hbm, 112, rfl⟩
abbrev main_call2_v3 : Ref sig .tc := ⟨.hbm, 113, rfl⟩
abbrev main_call2_v4 : Ref sig .tc := ⟨.hbm, 114, rfl⟩
abbrev main_v77 : Ref sig .tc := ⟨.hbm, 115, rfl⟩
abbrev main_v78 : Ref sig .tc := ⟨.hbm, 116, rfl⟩
abbrev main_cst_19 : Ref sig .tc := ⟨.hbm, 117, rfl⟩
abbrev main_v79 : Ref sig .tc := ⟨.hbm, 118, rfl⟩
abbrev main_v80 : Ref sig .tc := ⟨.hbm, 119, rfl⟩
abbrev main_c_20 : Ref sig .tc := ⟨.hbm, 120, rfl⟩
abbrev main_c_21 : Ref sig .tc := ⟨.hbm, 121, rfl⟩
abbrev main_call3_v0 : Ref sig .tc := ⟨.hbm, 122, rfl⟩
abbrev main_call3_v1 : Ref sig .tc := ⟨.hbm, 123, rfl⟩
abbrev main_call3_v2 : Ref sig .tc := ⟨.hbm, 124, rfl⟩
abbrev main_call3_v3 : Ref sig .tc := ⟨.hbm, 125, rfl⟩
abbrev main_call3_v4 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_c_22 : Ref sig .tc := ⟨.hbm, 132, rfl⟩
abbrev main_v86 : Ref sig .tc := ⟨.hbm, 133, rfl⟩
abbrev main_v87 : Ref sig .tc := ⟨.hbm, 134, rfl⟩
abbrev main_c_23 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_c_24 : Ref sig .tc := ⟨.hbm, 139, rfl⟩
abbrev main_v91 : Ref sig .tc := ⟨.hbm, 140, rfl⟩
abbrev main_v92 : Ref sig .tc := ⟨.hbm, 141, rfl⟩
abbrev main_c_25 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_c_26 : Ref sig .tc := ⟨.hbm, 146, rfl⟩
abbrev main_v96 : Ref sig .tc := ⟨.hbm, 147, rfl⟩
abbrev main_v97 : Ref sig .tc := ⟨.hbm, 148, rfl⟩
abbrev main_c_27 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_c_28 : Ref sig .tc := ⟨.hbm, 163, rfl⟩
abbrev main_v111 : Ref sig .tc := ⟨.hbm, 164, rfl⟩
abbrev main_v112 : Ref sig .tc := ⟨.hbm, 165, rfl⟩
abbrev main_c_29 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_c_30 : Ref sig .tc := ⟨.hbm, 170, rfl⟩
abbrev main_v116 : Ref sig .tc := ⟨.hbm, 171, rfl⟩
abbrev main_v117 : Ref sig .tc := ⟨.hbm, 172, rfl⟩
abbrev main_c_31 : Ref sig .tc := ⟨.hbm, 173, rfl⟩
abbrev main_v118 : Ref sig .tc := ⟨.hbm, 174, rfl⟩
abbrev main_v119 : Ref sig .tc := ⟨.hbm, 175, rfl⟩
abbrev main_v120 : Ref sig .tc := ⟨.hbm, 176, rfl⟩
abbrev main_c_32 : Ref sig .tc := ⟨.hbm, 177, rfl⟩
abbrev main_v121 : Ref sig .tc := ⟨.hbm, 178, rfl⟩
abbrev main_v122 : Ref sig .tc := ⟨.hbm, 179, rfl⟩
abbrev main_c_33 : Ref sig .tc := ⟨.hbm, 180, rfl⟩
abbrev main_v123 : Ref sig .tc := ⟨.hbm, 181, rfl⟩
abbrev main_v124 : Ref sig .tc := ⟨.hbm, 182, rfl⟩
abbrev main_v125 : Ref sig .tc := ⟨.hbm, 183, rfl⟩
abbrev main_v126 : Ref sig .tc := ⟨.hbm, 184, rfl⟩
abbrev main_v127 : Ref sig .tc := ⟨.hbm, 185, rfl⟩
abbrev main_v128 : Ref sig .tc := ⟨.hbm, 186, rfl⟩
abbrev main_v129 : Ref sig .tc := ⟨.hbm, 187, rfl⟩
abbrev main_v130 : Ref sig .tc := ⟨.hbm, 188, rfl⟩
abbrev main_v131 : Ref sig .tc := ⟨.hbm, 189, rfl⟩
abbrev main_v132 : Ref sig .tc := ⟨.hbm, 190, rfl⟩
abbrev main_v133 : Ref sig .tc := ⟨.hbm, 191, rfl⟩
abbrev main_v134 : Ref sig .tc := ⟨.hbm, 192, rfl⟩
abbrev main_v135 : Ref sig .tc := ⟨.hbm, 193, rfl⟩
abbrev main_c_34 : Ref sig .tc := ⟨.hbm, 194, rfl⟩
abbrev main_v136 : Ref sig .tc := ⟨.hbm, 195, rfl⟩
abbrev main_v137 : Ref sig .tc := ⟨.hbm, 196, rfl⟩
abbrev main_c_35 : Ref sig .tc := ⟨.hbm, 197, rfl⟩
abbrev main_v138 : Ref sig .tc := ⟨.hbm, 198, rfl⟩
abbrev main_v139 : Ref sig .tc := ⟨.hbm, 199, rfl⟩
abbrev main_v140 : Ref sig .tc := ⟨.hbm, 200, rfl⟩
abbrev main_c_36 : Ref sig .tc := ⟨.hbm, 201, rfl⟩
abbrev main_v141 : Ref sig .tc := ⟨.hbm, 202, rfl⟩
abbrev main_v142 : Ref sig .tc := ⟨.hbm, 203, rfl⟩
abbrev main_c_37 : Ref sig .tc := ⟨.hbm, 204, rfl⟩
abbrev main_v143 : Ref sig .tc := ⟨.hbm, 205, rfl⟩
abbrev main_v144 : Ref sig .tc := ⟨.hbm, 206, rfl⟩
abbrev main_v145 : Ref sig .tc := ⟨.hbm, 207, rfl⟩
abbrev main_c_38 : Ref sig .tc := ⟨.hbm, 208, rfl⟩
abbrev main_v146 : Ref sig .tc := ⟨.hbm, 209, rfl⟩
abbrev main_v147 : Ref sig .tc := ⟨.hbm, 210, rfl⟩
abbrev main_c_39 : Ref sig .tc := ⟨.hbm, 211, rfl⟩
abbrev main_v148 : Ref sig .tc := ⟨.hbm, 212, rfl⟩
abbrev main_v149 : Ref sig .tc := ⟨.hbm, 213, rfl⟩
abbrev main_v150 : Ref sig .tc := ⟨.hbm, 214, rfl⟩
abbrev main_v151 : Ref sig .tc := ⟨.hbm, 215, rfl⟩
abbrev main_v152 : Ref sig .tc := ⟨.hbm, 216, rfl⟩
abbrev main_v153 : Ref sig .tc := ⟨.hbm, 217, rfl⟩
abbrev main_v154 : Ref sig .tc := ⟨.hbm, 218, rfl⟩
abbrev main_v155 : Ref sig .tc := ⟨.hbm, 219, rfl⟩
abbrev main_v156 : Ref sig .tc := ⟨.hbm, 220, rfl⟩
abbrev main_v157 : Ref sig .tc := ⟨.hbm, 221, rfl⟩
abbrev main_v158 : Ref sig .tc := ⟨.hbm, 222, rfl⟩
abbrev main_v159 : Ref sig .tc := ⟨.hbm, 223, rfl⟩
abbrev main_v160 : Ref sig .tc := ⟨.hbm, 224, rfl⟩
abbrev main_c_40 : Ref sig .tc := ⟨.hbm, 225, rfl⟩
abbrev main_v161 : Ref sig .tc := ⟨.hbm, 226, rfl⟩
abbrev main_v162 : Ref sig .tc := ⟨.hbm, 227, rfl⟩
abbrev main_c_41 : Ref sig .tc := ⟨.hbm, 228, rfl⟩
abbrev main_v163 : Ref sig .tc := ⟨.hbm, 229, rfl⟩
abbrev main_v164 : Ref sig .tc := ⟨.hbm, 230, rfl⟩
abbrev main_v165 : Ref sig .tc := ⟨.hbm, 231, rfl⟩
abbrev main_c_42 : Ref sig .tc := ⟨.hbm, 232, rfl⟩
abbrev main_v166 : Ref sig .tc := ⟨.hbm, 233, rfl⟩
abbrev main_v167 : Ref sig .tc := ⟨.hbm, 234, rfl⟩
abbrev main_c_43 : Ref sig .tc := ⟨.hbm, 235, rfl⟩
abbrev main_v168 : Ref sig .tc := ⟨.hbm, 236, rfl⟩
abbrev main_v169 : Ref sig .tc := ⟨.hbm, 237, rfl⟩
abbrev main_v170 : Ref sig .tc := ⟨.hbm, 238, rfl⟩
abbrev main_c_44 : Ref sig .tc := ⟨.hbm, 239, rfl⟩
abbrev main_v171 : Ref sig .tc := ⟨.hbm, 240, rfl⟩
abbrev main_v172 : Ref sig .tc := ⟨.hbm, 241, rfl⟩
abbrev main_c_45 : Ref sig .tc := ⟨.hbm, 242, rfl⟩
abbrev main_v173 : Ref sig .tc := ⟨.hbm, 243, rfl⟩
abbrev main_v174 : Ref sig .tc := ⟨.hbm, 244, rfl⟩
abbrev main_v175 : Ref sig .tc := ⟨.hbm, 245, rfl⟩
abbrev main_v176 : Ref sig .tc := ⟨.hbm, 246, rfl⟩
abbrev main_v177 : Ref sig .tc := ⟨.hbm, 247, rfl⟩
abbrev main_v178 : Ref sig .tc := ⟨.hbm, 248, rfl⟩
abbrev main_v179 : Ref sig .tc := ⟨.hbm, 249, rfl⟩
abbrev main_v180 : Ref sig .tc := ⟨.hbm, 250, rfl⟩
abbrev main_v181 : Ref sig .tc := ⟨.hbm, 251, rfl⟩
abbrev main_v182 : Ref sig .tc := ⟨.hbm, 252, rfl⟩
abbrev main_v183 : Ref sig .tc := ⟨.hbm, 253, rfl⟩
abbrev main_v184 : Ref sig .tc := ⟨.hbm, 254, rfl⟩
abbrev main_v185 : Ref sig .tc := ⟨.hbm, 255, rfl⟩
abbrev main_v186 : Ref sig .tc := ⟨.hbm, 256, rfl⟩
abbrev main_v187 : Ref sig .tc := ⟨.hbm, 257, rfl⟩
abbrev main_v188 : Ref sig .tc := ⟨.hbm, 258, rfl⟩
abbrev main_v189 : Ref sig .tc := ⟨.hbm, 259, rfl⟩
abbrev main_v190 : Ref sig .tc := ⟨.hbm, 260, rfl⟩
abbrev main_v191 : Ref sig .tc := ⟨.hbm, 261, rfl⟩
abbrev main_v192 : Ref sig .tc := ⟨.hbm, 262, rfl⟩
abbrev main_v193 : Ref sig .tc := ⟨.hbm, 263, rfl⟩
abbrev main_v194 : Ref sig .tc := ⟨.hbm, 264, rfl⟩
abbrev main_v195 : Ref sig .tc := ⟨.hbm, 265, rfl⟩
abbrev main_v196 : Ref sig .tc := ⟨.hbm, 266, rfl⟩
abbrev main_v197 : Ref sig .tc := ⟨.hbm, 267, rfl⟩
abbrev main_v198 : Ref sig .tc := ⟨.hbm, 268, rfl⟩
abbrev main_v199 : Ref sig .tc := ⟨.hbm, 269, rfl⟩
abbrev main_v200 : Ref sig .tc := ⟨.hbm, 270, rfl⟩
abbrev main_v201 : Ref sig .tc := ⟨.hbm, 271, rfl⟩
abbrev main_v202 : Ref sig .tc := ⟨.hbm, 272, rfl⟩
abbrev main_v203 : Ref sig .tc := ⟨.hbm, 273, rfl⟩
abbrev main_v204 : Ref sig .tc := ⟨.hbm, 274, rfl⟩
abbrev main_v205 : Ref sig .tc := ⟨.hbm, 275, rfl⟩
abbrev main_v206 : Ref sig .tc := ⟨.hbm, 276, rfl⟩
abbrev main_v207 : Ref sig .tc := ⟨.hbm, 277, rfl⟩
abbrev main_v208 : Ref sig .tc := ⟨.hbm, 278, rfl⟩

abbrev nD : Nat := 1
abbrev τ : Topo := Topo.v7x

variable {F : FTy → Type} [FloatOps F]
-- ==== Proof.Steps.lean ====
/- The kernel's body as 32 equal steps and four closing waits.

   The printed body is one straight line. Here one step is written once, as a function of its number `k`: batch
   `k / 8`, rows `16 · (k % 8)` to `16 · (k % 8) + 15`, scratch slot and semaphore `k % 4`. `body_eq` says that the printed
   body is the 32 steps in order, each from the fourth on after the wait for the step four before, and then the waits for the last four. -/
module

public import proofs.«01_k».proof.Proof.Gen.Kernel.Skeleton
public import Idealize.ShloMosaic.Lib.Pipeline.FrameBody
public import Idealize.ShloMosaic.Lib.Tactic

@[expose] public section

noncomputable section

namespace Cert.Kernel.Hand

open Cert.Kernel Cert.Kernel.Gen
open Idealize.ShloMosaic Idealize.ShloMosaic.TcCoe Idealize.ShloMosaic.Tactic
open Idealize.SL.Sem

variable {F : FTy → Type} [FloatOps F]

/-- The block of 16 rows a step computes, from the step's 16 boxes and its batch's feature window. -/
def chunk (r : Vec F S1x16x4 .f32) (f : Vec F S1x8x8x256 .f32) : FVec F S1x16x14x14x256 .f32 :=
  k0_pay5 (k0_pay3 r) (k0_pay4 r) f

/-- The rows of the boxes that step `k` reads lie within the array. -/
theorem inb_rois (k : ℕ) : ∀ a, (![k / 8 % 4, 16 * (k % 8), 0] : Fin 3 → ℕ) a + S1x16x4.size a ≤ S4x128x4.size a := by
  have h1 : k / 8 % 4 < 4 := Nat.mod_lt _ (by decide)
  have h2 : k % 8 < 8 := Nat.mod_lt _ (by decide)
  intro a; fin_cases a
  · show k / 8 % 4 + 1 ≤ 4; omega
  · show 16 * (k % 8) + 16 ≤ 128; omega
  · show 0 + 4 ≤ 4; omega

/-- The feature window of step `k`'s batch lies within the array. -/
theorem inb_feat (k : ℕ) : ∀ a, (![k / 8 % 4, 0, 0, 0] : Fin 4 → ℕ) a + S1x8x8x256.size a ≤ S4x8x8x256.size a := by
  have h1 : k / 8 % 4 < 4 := Nat.mod_lt _ (by decide)
  intro a; fin_cases a
  · show k / 8 % 4 + 1 ≤ 4; omega
  · show 0 + 8 ≤ 8; omega
  · show 0 + 8 ≤ 8; omega
  · show 0 + 256 ≤ 256; omega

/-- Slot `k % 4` lies within the scratch. -/
theorem inb_slot (k : ℕ) : ∀ a, (![k % 4, 0, 0, 0, 0] : Fin 5 → ℕ) a + S1x16x14x14x256.size a ≤ S4x16x14x14x256.size a := by
  have h1 : k % 4 < 4 := Nat.mod_lt _ (by decide)
  intro a; fin_cases a
  · show k % 4 + 1 ≤ 4; omega
  · show 0 + 16 ≤ 16; omega
  · show 0 + 14 ≤ 14; omega
  · show 0 + 14 ≤ 14; omega
  · show 0 + 256 ≤ 256; omega

/-- The rows of the result that step `k` writes lie within it. -/
theorem inb_out (k : ℕ) : ∀ a, (![k / 8 % 4, 16 * (k % 8), 0, 0, 0] : Fin 5 → ℕ) a + S1x16x14x14x256.size a ≤ S4x128x14x14x256.size a := by
  have h1 : k / 8 % 4 < 4 := Nat.mod_lt _ (by decide)
  have h2 : k % 8 < 8 := Nat.mod_lt _ (by decide)
  intro a; fin_cases a
  · show k / 8 % 4 + 1 ≤ 4; omega
  · show 16 * (k % 8) + 16 ≤ 128; omega
  · show 0 + 14 ≤ 14; omega
  · show 0 + 14 ≤ 14; omega
  · show 0 + 256 ≤ 256; omega

/-- Semaphore `k % 4` is one of the four. -/
theorem inb_sem (k : ℕ) : ∀ a, (![k % 4] : Fin 1 → ℕ) a + S1.size a ≤ S4.size a := by
  have h1 : k % 4 < 4 := Nat.mod_lt _ (by decide)
  intro a; fin_cases a
  show k % 4 + 1 ≤ 4; omega

/-- The boxes step `k` reads. -/
abbrev roisRect (k : ℕ) : Rect S4x128x4 := Rect.unit (s := S4x128x4) ![k / 8 % 4, 16 * (k % 8), 0] S1x16x4.size (inb_rois k)
/-- The feature window step `k` reads. -/
abbrev featRect (k : ℕ) : Rect S4x8x8x256 := Rect.unit (s := S4x8x8x256) ![k / 8 % 4, 0, 0, 0] S1x8x8x256.size (inb_feat k)
/-- The scratch slot step `k` fills. -/
abbrev slotRect (k : ℕ) : Rect S4x16x14x14x256 := Rect.unit (s := S4x16x14x14x256) ![k % 4, 0, 0, 0, 0] S1x16x14x14x256.size (inb_slot k)
/-- The rows of the result step `k` writes. -/
abbrev outRect (k : ℕ) : Rect S4x128x14x14x256 :=
  Rect.unit (s := S4x128x14x14x256) ![k / 8 % 4, 16 * (k % 8), 0, 0, 0] S1x16x14x14x256.size (inb_out k)

section Body

variable (arg1 : Memref sig .tc .vmem S4x128x4 .f32) (arg2 : Memref sig .tc .vmem S4x8x8x256 .f32)
  (arg3 : Memref sig .tc .hbm S4x128x14x14x256 .f32) (arg4 : Memref sig .tc .vmem S4x16x14x14x256 .f32) (arg5 : DmaSems sig S4)

/-- Step `k`'s scratch slot, as the source of its copy. -/
abbrev slotMem (k : ℕ) : Memref sig .tc .vmem S16x14x14x256 .f32 :=
  (arg4.slice (slotRect k) (fun _ => rfl)).squeeze S16x14x14x256 squeezes_S1x16x14x14x256_S16x14x14x256
/-- The rows of the result step `k` writes, as the destination of its copy. -/
abbrev outMem (k : ℕ) : Memref sig .tc .hbm S16x14x14x256 .f32 :=
  (arg3.slice (outRect k) (fun _ => rfl)).squeeze S16x14x14x256 squeezes_S1x16x14x14x256_S16x14x14x256
/-- The semaphore of step `k`'s copy. -/
abbrev stepSem (k : ℕ) : DmaSem sig := ((arg5.slice (Rect.unit (s := S4) ![k % 4] S1.size (inb_sem k))).squeeze S_ squeezes_S1_S_).sem

/-- Step `k`: read the boxes and the features, fill the slot, start the copy of the slot into the result. -/
def step (k : ℕ) : Prog (TpuEff nD τ sig (Elt F) Λ₀ .tc) PUnit := do
  let r : Vec F S1x16x4 .f32 ← Prog.lift (.load arg1 (roisRect k).toLoadRect (View.loadsAt_vmem h_S1x16x4))
  let f : Vec F S1x8x8x256 .f32 ← Prog.lift (.load arg2 (featRect k).toLoadRect (View.loadsAt_vmem h_S1x8x8x256))
  let _old : Vec F S1x16x14x14x256 .f32 ← Prog.lift (.load arg4 (slotRect k).toLoadRect (View.loadsAt_vmem h_S1x16x14x14x256))
  Prog.lift (.store arg4 (slotRect k) (chunk r f) Finset.univ (View.stores_vmem_bits_univ h_S1x16x14x14x256 rfl) (.inl rfl))
  Prog.lift (.enqueueDma (slotMem arg4 k) (.here (outMem arg3 k)) (.dma (stepSem arg5 k)) ((View.wordExact_bits rfl).reshape _ _)
    ((View.wordExact_bits rfl).reshape _ _) ⟨Or.inl rfl, trivial⟩)

/-- The wait for step `k`'s copy. -/
def await (k : ℕ) : Prog (TpuEff nD τ sig (Elt F) Λ₀ .tc) PUnit :=
  Prog.lift (.waitDma2 (stepSem arg5 k) (slotMem arg4 k) (outMem arg3 k) ((View.wordExact_bits rfl).reshape _ _)
    ((View.wordExact_bits rfl).reshape _ _))

/-- Steps `k, …, k + n − 1`, each after the wait for the step four before it. -/
def steps : ℕ → ℕ → Prog (TpuEff nD τ sig (Elt F) Λ₀ .tc) PUnit
  | 0, _ => pure ⟨⟩
  | n + 1, k => do
    await arg3 arg4 arg5 k
    step arg1 arg2 arg3 arg4 arg5 (k + 4)
    steps n (k + 1)

/-- The whole body: four steps, 28 steps each after a wait, four waits. -/
def body : Prog (TpuEff nD τ sig (Elt F) Λ₀ .tc) PUnit := do
  step arg1 arg2 arg3 arg4 arg5 0
  step arg1 arg2 arg3 arg4 arg5 1
  step arg1 arg2 arg3 arg4 arg5 2
  step arg1 arg2 arg3 arg4 arg5 3
  steps arg1 arg2 arg3 arg4 arg5 28 0
  await arg3 arg4 arg5 28
  await arg3 arg4 arg5 29
  await arg3 arg4 arg5 30
  await arg3 arg4 arg5 31

end Body

set_option maxRecDepth 65536 in
/-- The printed kernel body is the composition of the steps. -/
theorem body_eq (i : grid0.Coords) (arg1 : Memref sig .tc .vmem S4x128x4 .f32) (harg1 : arg1.IsWhole) (arg2 : Memref sig .tc .vmem S4x8x8x256 .f32)
    (harg2 : arg2.IsWhole) (arg3 : Memref sig .tc .hbm S4x128x14x14x256 .f32) (harg3 : arg3.IsWhole)
    (arg4 : Memref sig .tc .vmem S4x16x14x14x256 .f32) (harg4 : arg4.IsWhole) (arg5 : DmaSems sig S4) :
    cc0__roi_kernel (F := F) i arg1 harg1 arg2 harg2 arg3 harg3 arg4 harg4 arg5 = body arg1 arg2 arg3 arg4 arg5 := by
  sl_kernel_rfl

end Cert.Kernel.Hand

end
-- ==== Proof.Ring.lean ====
/- One step of the kernel and one wait, each proved once for every step number, and from them the whole body.

   The state between steps: the boxes and the features are held whole and unchanged; the rows of the result that the
   finished copies wrote hold the final values; the rows no step has reached hold what they held at the start; the last
   four steps' copies are under way, each lending its scratch slot and its rows of the result. -/
module

public import proofs.«01_k».proof.Proof.Steps
public import proofs.«01_k».proof.Proof.Gen.Kernel.Points
public import Idealize.ShloMosaic.Lib.Transfers

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The separation logic's model: the pipeline's algebra beside the transfers' counters. -/
local notation "𝕄" => MT nD τ sig Unit (Elt F) ℕ (Pipeline.UD sig nD τ) ℕ

/-! ## Which step writes an element of the result, and what -/

/-- The step that writes element `i` of the result. -/
def stepOf (i : S4x128x14x14x256.Idx) : ℕ := 8 * (i 0).val + (i 1).val / 16

/-- Where element `i` of the result lies in its step's block. -/
def locOf (i : S4x128x14x14x256.Idx) : S1x16x14x14x256.Idx
  | ⟨0, _⟩ => ⟨0, Nat.zero_lt_one⟩
  | ⟨1, _⟩ => ⟨(i 1).val % 16, Nat.mod_lt (i 1).val (Nat.succ_pos 15)⟩
  | ⟨2, _⟩ => i 2
  | ⟨3, _⟩ => i 3
  | ⟨4, _⟩ => i 4

/-- The boxes step `k` reads out of the array `R`. -/
def roisAt (R : Vec F S4x128x4 .f32) (k : ℕ) : Vec F S1x16x4 .f32 := fun x => R ((roisRect k).idx x)
/-- The feature window step `k` reads out of the windows `X`. -/
def featAt (X : Vec F S4x8x8x256 .f32) (k : ℕ) : Vec F S1x8x8x256 .f32 := fun x => X ((featRect k).idx x)
/-- The block step `k` computes. -/
def blockAt (R : Vec F S4x128x4 .f32) (X : Vec F S4x8x8x256 .f32) (k : ℕ) : FVec F S1x16x14x14x256 .f32 :=
  chunk (roisAt R k) (featAt X k)
/-- The whole result: each element from the block of the step that writes it. -/
def result (R : Vec F S4x128x4 .f32) (X : Vec F S4x8x8x256 .f32) : Vec F S4x128x14x14x256 .f32 :=
  fun i => blockAt R X (stepOf i) (locOf i)

theorem stepOf_lt (i : S4x128x14x14x256.Idx) : stepOf i < 32 := by
  have h0 : (i 0).val < 4 := (i 0).isLt
  have h1 : (i 1).val < 128 := (i 1).isLt
  unfold stepOf; omega

/-- Step `k`'s rows of the result are the elements that step `k` writes. -/
theorem mem_outRect {k : ℕ} (hk : k < 32) (i : S4x128x14x14x256.Idx) : i ∈ (outRect k).set ↔ stepOf i = k := by
  have h0 : (i 0).val < 4 := (i 0).isLt
  have h1 : (i 1).val < 128 := (i 1).isLt
  unfold stepOf
  refine (LoadRect.mem_set _).trans ⟨fun h => ?_, fun h a => ?_⟩
  · obtain ⟨j0, hj0, e0⟩ := h 0
    obtain ⟨j1, hj1, e1⟩ := h 1
    replace hj0 : j0 < 1 := hj0
    replace hj1 : j1 < 16 := hj1
    replace e0 : (i 0).val = k / 8 % 4 + 1 * j0 := e0
    replace e1 : (i 1).val = 16 * (k % 8) + 1 * j1 := e1
    omega
  · fin_cases a
    · exact ⟨0, (by decide : 0 < 1), show (i 0).val = k / 8 % 4 + 1 * 0 by omega⟩
    · exact ⟨(i 1).val % 16, (Nat.mod_lt _ (by decide) : _ < 16), show (i 1).val = 16 * (k % 8) + 1 * ((i 1).val % 16) by omega⟩
    · exact ⟨(i 2).val, (i 2).isLt, show (i 2).val = 0 + 1 * (i 2).val by omega⟩
    · exact ⟨(i 3).val, (i 3).isLt, show (i 3).val = 0 + 1 * (i 3).val by omega⟩
    · exact ⟨(i 4).val, (i 4).isLt, show (i 4).val = 0 + 1 * (i 4).val by omega⟩

/-- The place in its block of the element under an index of step `k`'s rows is that index. -/
theorem locOf_emb (k : ℕ) (y : S1x16x14x14x256.Idx) : locOf ((outRect k).emb y) = y := by
  have h0 : (y 0).val < 1 := (y 0).isLt
  have h1 : (y 1).val < 16 := (y 1).isLt
  funext a
  apply Fin.ext
  fin_cases a
  · show 0 = (y 0).val; omega
  · show (16 * (k % 8) + 1 * (y 1).val) % 16 = (y 1).val; omega
  · show 0 + 1 * (y 2).val = (y 2).val; omega
  · show 0 + 1 * (y 3).val = (y 3).val; omega
  · show 0 + 1 * (y 4).val = (y 4).val; omega

/-- The result at the element under an index of step `k`'s rows is step `k`'s block at that index. -/
theorem result_emb (R : Vec F S4x128x4 .f32) (X : Vec F S4x8x8x256 .f32) {k : ℕ} (hk : k < 32) (y : S1x16x14x14x256.Idx) :
    result R X ((outRect k).emb y) = blockAt R X k y := by
  have hs : stepOf ((outRect k).emb y) = k := (mem_outRect hk _).mp ((outRect k).idx_mem y)
  unfold result; rw [locOf_emb, hs]

/-! ## The buffers -/

/-- The result, left in HBM. -/
abbrev outBuf : Memref sig .tc .hbm S4x128x14x14x256 .f32 := Memref.whole main_v0
/-- The scratch of four slots. -/
abbrev ringBuf : Memref sig .tc .vmem S4x16x14x14x256 .f32 := Memref.whole cc0_scratch0
/-- Step `k`'s rows of the result, the whole array the kernel writes. -/
abbrev dst (k : ℕ) : Memref sig .tc .hbm S16x14x14x256 .f32 := outMem outBuf k
/-- Step `k`'s slot. -/
abbrev src (k : ℕ) : Memref sig .tc .vmem S16x14x14x256 .f32 := slotMem ringBuf k
/-- Step `k`'s semaphore. -/
abbrev sem (k : ℕ) : SemLoc sig := .dma (stepSem cc0_scratch1 k)

theorem dst_set (k : ℕ) : (dst k).view.set = (outRect k).set := by
  rw [show (dst k).view.set = ((View.whole main_v0 : View sig .tc _ _ _).slice (outRect k)).set from View.set_reshape _ _]
  exact View.set_slice_whole _ _
theorem src_set (k : ℕ) : (src k).view.set = (slotRect k).set := by
  rw [show (src k).view.set = ((View.whole cc0_scratch0 : View sig .tc _ _ _).slice (slotRect k)).set from View.set_reshape _ _]
  exact View.set_slice_whole _ _

theorem mem_slotRect (k : ℕ) (i : S4x16x14x14x256.Idx) : i ∈ (slotRect k).set ↔ (i 0).val = k % 4 := by
  refine (LoadRect.mem_set _).trans ⟨fun h => ?_, fun h a => ?_⟩
  · obtain ⟨j0, hj0, e0⟩ := h 0
    replace hj0 : j0 < 1 := hj0
    replace e0 : (i 0).val = k % 4 + 1 * j0 := e0
    omega
  · fin_cases a
    · exact ⟨0, (by decide : 0 < 1), show (i 0).val = k % 4 + 1 * 0 by omega⟩
    · exact ⟨(i 1).val, (i 1).isLt, show (i 1).val = 0 + 1 * (i 1).val by omega⟩
    · exact ⟨(i 2).val, (i 2).isLt, show (i 2).val = 0 + 1 * (i 2).val by omega⟩
    · exact ⟨(i 3).val, (i 3).isLt, show (i 3).val = 0 + 1 * (i 3).val by omega⟩
    · exact ⟨(i 4).val, (i 4).isLt, show (i 4).val = 0 + 1 * (i 4).val by omega⟩

/-- Steps four apart use the same slot. -/
theorem slotRect_add (k : ℕ) : slotRect (k + 4) = slotRect k :=
  Rect.unit_congr (by rw [Nat.add_mod_right]) _ _
/-- Steps four apart use the same semaphore. -/
theorem sem_add (k : ℕ) : sem (k + 4) = sem k := by
  have h : ∀ (o o' : Fin 1 → ℕ) (p : ∀ a, o a + S1.size a ≤ S4.size a) (p' : ∀ a, o' a + S1.size a ≤ S4.size a), o = o' →
      SemLoc.dma (sig := sig) ((cc0_scratch1.slice (Rect.unit (s := S4) o S1.size p)).squeeze S_ squeezes_S1_S_).sem
        = .dma ((cc0_scratch1.slice (Rect.unit (s := S4) o' S1.size p')).squeeze S_ squeezes_S1_S_).sem := by
    rintro o _ p p' rfl; rfl
  exact h _ _ _ _ (by rw [Nat.add_mod_right])

/-! ## A slot at rest, and a copy under way -/

variable (c : Dev nD)

/-- The transfers' counters. -/
abbrev EC : UEmb Counters 𝕄 := countersEmb

/-- The scratch buffer's elements `S` at contents `f`. -/
abbrev ringPt (S : Finset S4x16x14x14x256.Idx) (f : Vec F S4x16x14x14x256 .f32) : sProp 𝕄 :=
  ((c : Thread nD τ).loc cc0_scratch0) ↦[S]{fullShare} f
/-- The result's elements `S` at contents `f`. -/
abbrev outPt (S : Finset S4x128x14x14x256.Idx) (f : Vec F S4x128x14x14x256 .f32) : sProp 𝕄 :=
  ((c : Thread nD τ).loc main_v0) ↦[S]{fullShare} f

/-- Step `k`'s slot at rest: held at some contents, its semaphore at zero. -/
def Idle (k : ℕ) : sProp 𝕄 :=
  iprop((∃ f, ringPt c (slotRect k).set f) ∗ semVal ((c : Thread nD τ), sem k) 0)

theorem Idle_add (k : ℕ) : (Idle c (k + 4) : sProp 𝕄) = Idle c k := by
  unfold Idle; rw [slotRect_add, sem_add]

/-- Step `k`'s copy under way: its wait will return step `k`'s rows of the result at `G`, and the slot. -/
def Busy (G : Vec F S4x128x14x14x256 .f32) (k : ℕ) : sProp 𝕄 :=
  iprop(∃ fd fs, ⌜∀ i ∈ (outRect k).set, fd i = G i⌝
    ∗ Transfers.Flight (EC (F := F)) (c : Thread nD τ) (sem k) () ((dst k).view.amount (sem k))
        iprop(outPt c (outRect k).set fd ∗ ringPt c (slotRect k).set fs))

section Body

variable (arg1 : Memref sig .tc .vmem S4x128x4 .f32) (arg2 : Memref sig .tc .vmem S4x8x8x256 .f32)
  (R : Vec F S4x128x4 .f32) (X : Vec F S4x8x8x256 .f32)

/-- The two inputs as the body holds them. -/
def Inputs : sProp 𝕄 := iprop(owns (c : Thread nD τ) arg1 fullShare R ∗ owns (c : Thread nD τ) arg2 fullShare X)

/-- What step `k`'s copy leaves in its rows of the result is step `k`'s block. -/
theorem copied (k : ℕ) (hk : k < 32) (fs : Vec F S4x16x14x14x256 .f32) (fd : Vec F S4x128x14x14x256 .f32) :
    ∀ i ∈ (outRect k).set,
      (dst k).view.write (Elt F) fd ((src k).view.read (Elt F) ((ringBuf.access (slotRect k)).write (Elt F) fs (blockAt R X k) Finset.univ)) Finset.univ i
        = result R X i := by
  intro i hi
  rw [← dst_set] at hi
  obtain ⟨x, -, rfl⟩ := Finset.mem_map.mp hi
  rw [View.write_emb_of_mem _ _ (Finset.mem_univ x)]
  have e1 : (src k).view.read (Elt F) ((ringBuf.access (slotRect k)).write (Elt F) fs (blockAt R X k) Finset.univ) x
      = blockAt R X k (Shape.reshapeEquiv squeezes_S1x16x14x14x256_S16x14x14x256.numel_eq x) :=
    View.read_write_of_mem (v := ringBuf.access (slotRect k)) fs (blockAt R X k) (Finset.mem_univ _)
  rw [e1]
  exact (result_emb R X hk _).symm

/-- One step: from its slot at rest and its rows of the result, it starts the copy of its block. -/
theorem wp_step (k : ℕ) (hk : k < 32) (g0 : Vec F S4x128x14x14x256 .f32) (Q : PUnit → sProp 𝕄) :
    iprop(Inputs c arg1 arg2 R X ∗ Idle c k ∗ outPt c (outRect k).set g0)
      ⊢ iprop((iprop(Inputs c arg1 arg2 R X ∗ Busy c (result R X) k) -∗ Q ⟨⟩)
        -∗ wp frame (wpE (defs₀ (F := F)) Variants.none (c : Thread nD τ) none) Set.univ (step arg1 arg2 outBuf ringBuf cc0_scratch1 k) Q) := by
  unfold Inputs Idle owns step
  iintro ⟨⟨⟨%f1, %h1, H1⟩, ⟨%f2, %h2, H2⟩⟩, ⟨⟨%f, Hb⟩, Hs⟩, Ho⟩ HQ
  subst h1 h2
  iapply (wp_load Variants.none (c : Thread nD τ) none Set.univ (View.setOn_subset_set _ _)) $$ H1
  iintro H1
  iapply (wp_load Variants.none (c : Thread nD τ) none Set.univ (View.setOn_subset_set _ _)) $$ H2
  iintro H2
  iapply (wp_load_rect Variants.none (c : Thread nD τ) none Set.univ (m := ringBuf) (r := slotRect k) (View.set_slice_whole _ _).subset) $$ Hb
  iintro Hb
  iapply (wp_store Variants.none (c : Thread nD τ) none Set.univ (m := ringBuf) (r := slotRect k) (View.set_slice_whole _ _).subset) $$ Hb
  iintro Hb
  iapply (Transfers.wp_dmaLocal (EC (F := F)) Variants.none (c : Thread nD τ) none (src := src k) (dst := dst k) (q := fullShare)
    (Sd := (outRect k).set) () ((dst k).view.amount (sem k)) rfl (View.dmaCredit_pos _ (by decide)) (dst_set k).subset) $$ [Hb Ho Hs]
  · rw [show (src k).view.set = (slotRect k).set from src_set k]
    isplitl [Hb]; · iexact Hb
    isplitl [Ho]; · iexact Ho
    iexact Hs
  iintro Hf
  rw [wp_ret]
  imodintro
  iapply HQ
  isplitl [H1 H2]
  · isplitl [H1]
    · iexists _; isplitr
      swap; · iexact H1
      ipureintro; rfl
    · iexists _; isplitr
      swap; · iexact H2
      ipureintro; rfl
  unfold Busy
  rw [show (src k).view.set = (slotRect k).set from src_set k]
  iexists _; iexists _
  isplitr
  swap; · iexact Hf
  ipureintro
  exact copied (arg1.view.read (Elt F) f1) (arg2.view.read (Elt F) f2) k hk f g0

/-- One wait: the copy of step `k` returns its rows of the result at the final values, and its slot at rest. -/
theorem wp_await (k : ℕ) (G : Vec F S4x128x14x14x256 .f32) (Q : PUnit → sProp 𝕄) :
    iprop(Busy c G k ∗ (∃ W, owes (c : Thread nD τ) 0 W))
      ⊢ iprop((iprop(outPt c (outRect k).set G ∗ Idle c k ∗ (∃ W, owes (c : Thread nD τ) 0 W)) -∗ Q ⟨⟩)
        -∗ wp frame (wpE (defs₀ (F := F)) Variants.none (c : Thread nD τ) none) Set.univ (await outBuf ringBuf cc0_scratch1 k) Q) := by
  unfold Busy await Idle
  iintro ⟨⟨%fd, %fs, %he, Hf⟩, ⟨%W, HW⟩⟩ HQ
  iapply (Transfers.wp_waitLocal (EC (F := F)) Variants.none (c : Thread nD τ) none () rfl) $$ [Hf HW]
  · isplitl [Hf]; · iexact Hf
    iexact HW
  iintro ⟨⟨Ho, Hb⟩, Hs, HW⟩
  rw [wp_ret]
  imodintro
  iapply HQ
  isplitl [Ho]
  · rw [show (outPt c (outRect k).set G : sProp 𝕄) = outPt c (outRect k).set fd from pointsTo_congr fun i hi => (he i hi).symm]
    iexact Ho
  isplitl [Hb Hs]
  · isplitl [Hb]
    · iexists _; iexact Hb
    iexact Hs
  iexists _; iexact HW

/-! ## The result's rows, step by step -/

/-- The elements of the result written by the steps before `k`. -/
def done (k : ℕ) : Finset S4x128x14x14x256.Idx := Finset.univ.filter fun i => stepOf i < k
/-- The elements of the result written by step `k` and those after it. -/
def todo (k : ℕ) : Finset S4x128x14x14x256.Idx := Finset.univ.filter fun i => k ≤ stepOf i

/-- Step `k`'s rows are taken out of those not yet written. -/
theorem todo_split {k : ℕ} (hk : k < 32) (f : Vec F S4x128x14x14x256 .f32) :
    (outPt c (todo k) f : sProp 𝕄) ⊢ iprop(outPt c (outRect k).set f ∗ outPt c (todo (k + 1)) f) := by
  have hu : todo k = (outRect k).set ∪ todo (k + 1) := by
    ext i; rw [Finset.mem_union, mem_outRect hk]; unfold todo
    rw [Finset.mem_filter_univ, Finset.mem_filter_univ]; omega
  have hd : Disjoint (outRect k).set (todo (k + 1)) := by
    rw [Finset.disjoint_left]; intro i hi; rw [mem_outRect hk] at hi; unfold todo
    rw [Finset.mem_filter_univ]; omega
  rw [hu]
  exact (pointsTo_union hd).1

/-- Step `k`'s rows join those written before. -/
theorem done_join {k : ℕ} (hk : k < 32) (f : Vec F S4x128x14x14x256 .f32) :
    iprop(outPt c (done k) f ∗ outPt c (outRect k).set f) ⊢ (outPt c (done (k + 1)) f : sProp 𝕄) := by
  have hu : done (k + 1) = done k ∪ (outRect k).set := by
    ext i; rw [Finset.mem_union, mem_outRect hk]; unfold done
    rw [Finset.mem_filter_univ, Finset.mem_filter_univ]; omega
  have hd : Disjoint (done k) (outRect k).set := by
    rw [Finset.disjoint_left]; intro i hi; rw [mem_outRect hk]; unfold done at hi
    rw [Finset.mem_filter_univ] at hi; omega
  rw [hu]
  exact (pointsTo_union hd).2

theorem todo_zero : todo 0 = Finset.univ := Finset.filter_true_of_mem fun i _ => Nat.zero_le _
theorem done_zero : done 0 = ∅ := Finset.filter_false_of_mem fun i _ => Nat.not_lt_zero _
theorem done_last : done 32 = Finset.univ := Finset.filter_true_of_mem fun i _ => stepOf_lt i

/-- A step, with the rows not yet written as one region. -/
theorem wp_begin (k : ℕ) (hk : k < 32) (g0 : Vec F S4x128x14x14x256 .f32) (Q : PUnit → sProp 𝕄) :
    iprop(Inputs c arg1 arg2 R X ∗ Idle c k ∗ outPt c (todo k) g0)
      ⊢ iprop((iprop(Inputs c arg1 arg2 R X ∗ Busy c (result R X) k ∗ outPt c (todo (k + 1)) g0) -∗ Q ⟨⟩)
        -∗ wp frame (wpE (defs₀ (F := F)) Variants.none (c : Thread nD τ) none) Set.univ (step arg1 arg2 outBuf ringBuf cc0_scratch1 k) Q) := by
  iintro ⟨HI, Hi, Ht⟩ HQ
  ihave Ht := (todo_split c hk g0) $$ Ht
  icases Ht with ⟨Hn, Ht⟩
  iapply (wp_step c arg1 arg2 R X k hk g0) $$ [HI Hi Hn]
  · isplitl [HI]; · iexact HI
    isplitl [Hi]; · iexact Hi
    iexact Hn
  iintro ⟨HI, B⟩
  iapply HQ
  isplitl [HI]; · iexact HI
  isplitl [B]; · iexact B
  iexact Ht

/-- A wait, with the rows written so far as one region. -/
theorem wp_finish (k : ℕ) (hk : k < 32) (G : Vec F S4x128x14x14x256 .f32) (Q : PUnit → sProp 𝕄) :
    iprop(Busy c G k ∗ (∃ W, owes (c : Thread nD τ) 0 W) ∗ outPt c (done k) G)
      ⊢ iprop((iprop(Idle c k ∗ (∃ W, owes (c : Thread nD τ) 0 W) ∗ outPt c (done (k + 1)) G) -∗ Q ⟨⟩)
        -∗ wp frame (wpE (defs₀ (F := F)) Variants.none (c : Thread nD τ) none) Set.univ (await outBuf ringBuf cc0_scratch1 k) Q) := by
  iintro ⟨B, HW, Hd⟩ HQ
  iapply (wp_await c k G) $$ [B HW]
  · isplitl [B]; · iexact B
    iexact HW
  iintro ⟨Ho, Hi, HW⟩
  iapply HQ
  isplitl [Hi]; · iexact Hi
  isplitl [HW]; · iexact HW
  iapply (done_join c hk G)
  isplitl [Hd]; · iexact Hd
  iexact Ho

/-! ## The whole body -/

/-- Before the wait for step `k`: steps `k` to `k + 3` under way, those before done, those after not begun. -/
def Mid (g0 : Vec F S4x128x14x14x256 .f32) (k : ℕ) : sProp 𝕄 :=
  iprop(Inputs c arg1 arg2 R X ∗ (∃ W, owes (c : Thread nD τ) 0 W)
    ∗ outPt c (done k) (result R X) ∗ outPt c (todo (k + 4)) g0
    ∗ Busy c (result R X) k ∗ Busy c (result R X) (k + 1) ∗ Busy c (result R X) (k + 2) ∗ Busy c (result R X) (k + 3))

/-- The loop of waits and steps carries the state from `k` to `k + n`. -/
theorem wp_steps (g0 : Vec F S4x128x14x14x256 .f32) (Q : PUnit → sProp 𝕄) (n k : ℕ) (h : n + k ≤ 28) :
    iprop(Mid c arg1 arg2 R X g0 k)
      ⊢ iprop((Mid c arg1 arg2 R X g0 (k + n) -∗ Q ⟨⟩)
        -∗ wp frame (wpE (defs₀ (F := F)) Variants.none (c : Thread nD τ) none) Set.univ (steps arg1 arg2 outBuf ringBuf cc0_scratch1 n k) Q) := by
  induction n generalizing k with
  | zero =>
    unfold steps
    iintro H HQ
    rw [wp_pure]
    imodintro
    iapply HQ
    iexact H
  | succ n ih =>
    unfold steps Mid
    rw [wp_bind]
    iintro ⟨HI, HW, Hd, Ht, B0, B1, B2, B3⟩ HQ
    iapply (wp_finish c k (by omega) (result R X)) $$ [B0 HW Hd]
    · isplitl [B0]; · iexact B0
      isplitl [HW]; · iexact HW
      iexact Hd
    iintro ⟨Hi, HW, Hd⟩
    rw [wp_bind]
    ihave Hi := (BI.BIBase.Entails.of_eq (Idle_add c k).symm) $$ Hi
    iapply (wp_begin c arg1 arg2 R X (k + 4) (by omega) g0) $$ [HI Hi Ht]
    · isplitl [HI]; · iexact HI
      isplitl [Hi]; · iexact Hi
      iexact Ht
    iintro ⟨HI, B4, Ht⟩
    iapply (ih (k + 1) (by omega)) $$ [HI HW Hd Ht B1 B2 B3 B4]
    · unfold Mid
      isplitl [HI]; · iexact HI
      isplitl [HW]; · iexact HW
      isplitl [Hd]; · iexact Hd
      isplitl [Ht]; · iexact Ht
      isplitl [B1]; · iexact B1
      isplitl [B2]; · iexact B2
      isplitl [B3]; · iexact B3
      iexact B4
    rw [show k + 1 + n = k + (n + 1) by omega]
    unfold Mid
    iexact HQ

/-- The four slots at rest. -/
def AllIdle : sProp 𝕄 := iprop(Idle c 0 ∗ Idle c 1 ∗ Idle c 2 ∗ Idle c 3)

/-- A slot at rest is the same for steps `4 * n` apart. -/
theorem Idle_mul (k n : ℕ) : (Idle c (k + 4 * n) : sProp 𝕄) = Idle c k := by
  induction n with
  | zero => rfl
  | succ n ih => rw [Nat.mul_succ, ← Nat.add_assoc, Idle_add, ih]

/-- The slots of the last four steps are the four slots. -/
theorem idle_last : iprop(Idle c 28 ∗ Idle c 29 ∗ Idle c 30 ∗ Idle c 31) ⊢ (iprop(Idle c 0 ∗ Idle c 1 ∗ Idle c 2 ∗ Idle c 3) : sProp 𝕄) := by
  rw [show (Idle c 28 : sProp 𝕄) = Idle c 0 from Idle_mul c 0 7, show (Idle c 29 : sProp 𝕄) = Idle c 1 from Idle_mul c 1 7,
    show (Idle c 30 : sProp 𝕄) = Idle c 2 from Idle_mul c 2 7, show (Idle c 31 : sProp 𝕄) = Idle c 3 from Idle_mul c 3 7]

/-- No row is written at the start. -/
theorem nothing_done (f : Vec F S4x128x14x14x256 .f32) : (iprop(emp) : sProp 𝕄) ⊢ outPt c (done 0) f := by
  rw [done_zero]
  exact BI.BIBase.Entails.of_eq pointsTo_empty.symm

/-- The whole body: from the slots at rest and the result at any contents, it leaves the result at `result`. -/
theorem wp_body (g0 : Vec F S4x128x14x14x256 .f32) (Q : PUnit → sProp 𝕄) :
    iprop(Inputs c arg1 arg2 R X ∗ (∃ W, owes (c : Thread nD τ) 0 W) ∗ AllIdle c ∗ outPt c Finset.univ g0)
      ⊢ iprop((iprop(Inputs c arg1 arg2 R X ∗ (∃ W, owes (c : Thread nD τ) 0 W) ∗ AllIdle c ∗ outPt c Finset.univ (result R X)) -∗ Q ⟨⟩)
        -∗ wp frame (wpE (defs₀ (F := F)) Variants.none (c : Thread nD τ) none) Set.univ (body arg1 arg2 outBuf ringBuf cc0_scratch1) Q) := by
  unfold AllIdle body
  iintro ⟨HI, HW, ⟨I0, I1, I2, I3⟩, Ht⟩ HQ
  ihave Ht := (BI.BIBase.Entails.of_eq (congrArg (fun S => (outPt c S g0 : sProp 𝕄)) todo_zero.symm)) $$ Ht
  rw [wp_bind]
  iapply (wp_begin c arg1 arg2 R X 0 (by omega) g0) $$ [HI I0 Ht]
  · isplitl [HI]; · iexact HI
    isplitl [I0]; · iexact I0
    iexact Ht
  iintro ⟨HI, B0, Ht⟩
  rw [wp_bind]
  iapply (wp_begin c arg1 arg2 R X 1 (by omega) g0) $$ [HI I1 Ht]
  · isplitl [HI]; · iexact HI
    isplitl [I1]; · iexact I1
    iexact Ht
  iintro ⟨HI, B1, Ht⟩
  rw [wp_bind]
  iapply (wp_begin c arg1 arg2 R X 2 (by omega) g0) $$ [HI I2 Ht]
  · isplitl [HI]; · iexact HI
    isplitl [I2]; · iexact I2
    iexact Ht
  iintro ⟨HI, B2, Ht⟩
  rw [wp_bind]
  iapply (wp_begin c arg1 arg2 R X 3 (by omega) g0) $$ [HI I3 Ht]
  · isplitl [HI]; · iexact HI
    isplitl [I3]; · iexact I3
    iexact Ht
  iintro ⟨HI, B3, Ht⟩
  rw [wp_bind]
  ihave Hd := (nothing_done c (result R X)) $$ []
  · exact .rfl
  iapply (wp_steps c arg1 arg2 R X g0 _ 28 0 (by omega)) $$ [HI HW Hd Ht B0 B1 B2 B3]
  · unfold Mid
    isplitl [HI]; · iexact HI
    isplitl [HW]; · iexact HW
    isplitl [Hd]; · iexact Hd
    isplitl [Ht]; · iexact Ht
    isplitl [B0]; · iexact B0
    isplitl [B1]; · iexact B1
    isplitl [B2]; · iexact B2
    iexact B3
  unfold Mid
  iintro ⟨HI, HW, Hd, -, B0, B1, B2, B3⟩
  rw [wp_bind]
  iapply (wp_finish c 28 (by omega) (result R X)) $$ [B0 HW Hd]
  · isplitl [B0]; · iexact B0
    isplitl [HW]; · iexact HW
    iexact Hd
  iintro ⟨I0, HW, Hd⟩
  rw [wp_bind]
  iapply (wp_finish c 29 (by omega) (result R X)) $$ [B1 HW Hd]
  · isplitl [B1]; · iexact B1
    isplitl [HW]; · iexact HW
    iexact Hd
  iintro ⟨I1, HW, Hd⟩
  rw [wp_bind]
  iapply (wp_finish c 30 (by omega) (result R X)) $$ [B2 HW Hd]
  · isplitl [B2]; · iexact B2
    isplitl [HW]; · iexact HW
    iexact Hd
  iintro ⟨I2, HW, Hd⟩
  iapply (wp_finish c 31 (by omega) (result R X)) $$ [B3 HW Hd]
  · isplitl [B3]; · iexact B3
    isplitl [HW]; · iexact HW
    iexact Hd
  iintro ⟨I3, HW, Hd⟩
  iapply HQ
  isplitl [HI]; · iexact HI
  isplitl [HW]; · iexact HW
  isplitl [I0 I1 I2 I3]
  · iapply (idle_last c)
    isplitl [I0]; · iexact I0
    isplitl [I1]; · iexact I1
    isplitl [I2]; · iexact I2
    iexact I3
  iapply (BI.BIBase.Entails.of_eq (congrArg (fun S => (outPt c S (result R X) : sProp 𝕄)) done_last))
  iexact Hd

end Body

end Cert.Kernel.Hand

end
-- ==== Proof.Run.lean ====
/- The whole program's run, at any float type: it terminates, the two argument arrays end as they began, every
   semaphore ends at zero, and the result array ends at `result` of the boxes and the features' corner windows. -/
module

public import proofs.«01_k».proof.Proof.Ring
public import proofs.«01_k».proof.Proof.Gen.Kernel.Launch
public import proofs.«01_k».proof.Proof.Gen.Kernel.Frame
public import Idealize.ShloMosaic.Lib.Pipeline.FrameValue

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- The separation logic's model: the pipeline's algebra beside the transfers' counters. -/
local notation "𝕄" => MT nD τ sig Unit (Elt F) ℕ (Pipeline.UD sig nD τ) ℕ

/-! ## The scratch buffer as its slots -/

section Slots

variable (c : Dev nD)

/-- The scratch elements of slot `k` and of the slots after it. -/
def slotsFrom (k : ℕ) : Finset S4x16x14x14x256.Idx := Finset.univ.filter fun i => k ≤ (i 0).val

theorem slotsFrom_zero : slotsFrom 0 = Finset.univ := Finset.filter_true_of_mem fun i _ => Nat.zero_le _
theorem slotsFrom_three : slotsFrom 3 = (slotRect 3).set := by
  ext i; have : (i 0).val < 4 := (i 0).isLt
  rw [mem_slotRect]; unfold slotsFrom; rw [Finset.mem_filter_univ]; omega
theorem slotsFrom_eq {k : ℕ} (hk : k < 4) : slotsFrom k = (slotRect k).set ∪ slotsFrom (k + 1) := by
  ext i; rw [Finset.mem_union, mem_slotRect, Nat.mod_eq_of_lt hk]; unfold slotsFrom
  rw [Finset.mem_filter_univ, Finset.mem_filter_univ]; omega
theorem slots_disjoint {k : ℕ} (hk : k < 4) : Disjoint (slotRect k).set (slotsFrom (k + 1)) := by
  rw [Finset.disjoint_left]; intro i hi; rw [mem_slotRect, Nat.mod_eq_of_lt hk] at hi; unfold slotsFrom
  rw [Finset.mem_filter_univ]; omega

/-- Slot `k` is taken off the slots from `k` on. -/
theorem slot_split {k : ℕ} (hk : k < 4) :
    iprop(∃ f, ringPt c (slotsFrom k) f) ⊢ (iprop((∃ f, ringPt c (slotRect k).set f) ∗ ∃ f, ringPt c (slotsFrom (k + 1)) f) : sProp 𝕄) := by
  iintro ⟨%f, H⟩
  ihave H := (show (ringPt c (slotsFrom k) f : sProp 𝕄) ⊢ iprop(ringPt c (slotRect k).set f ∗ ringPt c (slotsFrom (k + 1)) f) by
    rw [slotsFrom_eq hk]; exact (pointsTo_union (slots_disjoint hk)).1) $$ H
  icases H with ⟨H1, H2⟩
  isplitl [H1]
  · iexists f; iexact H1
  iexists f; iexact H2

/-- Slot `k` is put back before the slots after it. -/
theorem slot_join {k : ℕ} (hk : k < 4) :
    (iprop((∃ f, ringPt c (slotRect k).set f) ∗ ∃ f, ringPt c (slotsFrom (k + 1)) f) : sProp 𝕄) ⊢ iprop(∃ f, ringPt c (slotsFrom k) f) := by
  iintro ⟨⟨%f, H1⟩, ⟨%g, H2⟩⟩
  iexists _
  iapply (show iprop(ringPt c (slotRect k).set f ∗ ringPt c (slotsFrom (k + 1)) g) ⊢ (ringPt c (slotsFrom k) _ : sProp 𝕄) by
    rw [slotsFrom_eq hk]; exact pointsTo_join (slots_disjoint hk))
  isplitl [H1]; · iexact H1
  iexact H2

/-- The scratch buffer whole and the four semaphores at zero, as the launch hands them over. -/
def Held : sProp 𝕄 :=
  iprop((∃ f : Vec F S4x16x14x14x256 .f32, ((c : Thread nD τ).loc cc0_scratch0) ↦{fullShare} f)
    ∗ semVal ((c : Thread nD τ), sem 0) 0 ∗ semVal ((c : Thread nD τ), sem 1) 0
    ∗ semVal ((c : Thread nD τ), sem 2) 0 ∗ semVal ((c : Thread nD τ), sem 3) 0)

/-- The scratch buffer and its semaphores are the four slots at rest. -/
theorem held_idle : (Held c : sProp 𝕄) ⊢ AllIdle c := by
  unfold Held AllIdle Idle
  iintro ⟨H, S0, S1, S2, S3⟩
  ihave H := (show iprop(∃ f : Vec F S4x16x14x14x256 .f32, ((c : Thread nD τ).loc cc0_scratch0) ↦{fullShare} f)
    ⊢ (iprop(∃ f, ringPt c (slotsFrom 0) f) : sProp 𝕄) by rw [slotsFrom_zero]) $$ H
  ihave H := (slot_split c (k := 0) (by omega)) $$ H
  icases H with ⟨H0, H⟩
  ihave H := (slot_split c (k := 1) (by omega)) $$ H
  icases H with ⟨H1, H⟩
  ihave H := (slot_split c (k := 2) (by omega)) $$ H
  icases H with ⟨H2, H⟩
  ihave H3 := (BI.BIBase.Entails.of_eq (congrArg (fun S => (iprop(∃ f, ringPt c S f) : sProp 𝕄)) slotsFrom_three)) $$ H
  isplitl [H0 S0]
  · isplitl [H0]; · iexact H0
    iexact S0
  isplitl [H1 S1]
  · isplitl [H1]; · iexact H1
    iexact S1
  isplitl [H2 S2]
  · isplitl [H2]; · iexact H2
    iexact S2
  isplitl [H3]; · iexact H3
  iexact S3

/-- The four slots at rest are the scratch buffer and its semaphores. -/
theorem idle_held : (AllIdle c : sProp 𝕄) ⊢ Held c := by
  unfold Held AllIdle Idle
  iintro ⟨⟨H0, S0⟩, ⟨H1, S1⟩, ⟨H2, S2⟩, ⟨H3, S3⟩⟩
  isplitl [H0 H1 H2 H3]
  · iapply (show (iprop(∃ f, ringPt c (slotsFrom 0) f) : sProp 𝕄)
      ⊢ iprop(∃ f : Vec F S4x16x14x14x256 .f32, ((c : Thread nD τ).loc cc0_scratch0) ↦{fullShare} f) by rw [slotsFrom_zero])
    iapply (slot_join c (k := 0) (by omega))
    isplitl [H0]; · iexact H0
    iapply (slot_join c (k := 1) (by omega))
    isplitl [H1]; · iexact H1
    iapply (slot_join c (k := 2) (by omega))
    isplitl [H2]; · iexact H2
    iapply (BI.BIBase.Entails.of_eq (congrArg (fun S => (iprop(∃ f, ringPt c S f) : sProp 𝕄)) slotsFrom_three.symm))
    iexact H3
  isplitl [S0]; · iexact S0
  isplitl [S1]; · iexact S1
  isplitl [S2]; · iexact S2
  iexact S3

end Slots

/-! ## The launch -/

variable (m : (ℓ : Loc nD τ sig) → Buf (Elt F) ℓ) (ρ : Dev nD → PrngReg)

/-- The result array, which the body's copies write. -/
def written : Finset (Ref sig .tc) := {main_v0}
/-- The four semaphores of the body's copies. -/
abbrev ownSem : Fin 4 → SemLoc sig := fun j => sem j.val
theorem ownSemFacts : Pipeline.OwnSemFacts spec0 ownSem := by decide
theorem ownSems_eq (c : Dev nD) :
    (Pipeline.ownSems0 (Ix := Unit) (Name := ℕ) (U := Pipeline.UD sig nD τ) (Lvl := ℕ) (Val := Elt F) (τ := τ) ownSem c : sProp 𝕄)
      = iprop(semVal ((c : Thread nD τ), sem 0) 0 ∗ semVal ((c : Thread nD τ), sem 1) 0
          ∗ semVal ((c : Thread nD τ), sem 2) 0 ∗ semVal ((c : Thread nD τ), sem 3) 0) := by
  rw [Pipeline.ownSems0_eq_of_list c ownSem [0, 1, 2, 3] (by decide) (by decide)]; rfl
theorem written_sub : written ⊆ Pipeline.restRefs sig spec0 \ ∅ := by decide

/-- What the boxes' window holds: the boxes. -/
abbrev boxes (c : Dev nD) : Vec F S4x128x4 .f32 := iblk m c 0 t0_0
/-- What the features' window holds: each image's corner window. -/
abbrev corner (c : Dev nD) : Vec F S4x8x8x256 .f32 := iblk m c 1 t0_0

/-- The buffers at the end: the result at `result`, every other as at the launch. -/
def G (c : Dev nD) (b : Ref sig .tc) : Buf (Elt F) ((c : Thread nD τ).loc b) :=
  Function.update (V m c) main_v0 (result (boxes m c) (corner m c)) b

/-- The buffers' contents before step `t` of the grid: the launch's before the one step, `G` after it. -/
def W (t : ℕ) : (c : Dev nD) → (b : Ref sig .tc) → Buf (Elt F) ((c : Thread nD τ).loc b) := if t = 0 then V m else G m

theorem phi_eq (W : (c : Dev nD) → (b : Ref sig .tc) → Buf (Elt F) ((c : Thread nD τ).loc b)) (c : Dev nD) :
    (Pipeline.ΦDRG ownSem spec0 ∅ written (V m) W c : sProp 𝕄)
      = iprop((∃ f : Vec F S4x16x14x14x256 .f32, ((c : Thread nD τ).loc cc0_scratch0) ↦{fullShare} f) ∗ (∃ r, prngReg c r)
          ∗ iprop(semVal ((c : Thread nD τ), sem 0) 0 ∗ semVal ((c : Thread nD τ), sem 1) 0
              ∗ semVal ((c : Thread nD τ), sem 2) 0 ∗ semVal ((c : Thread nD τ), sem 3) 0)
          ∗ iprop(emp) ∗ outPt c Finset.univ (W c main_v0)) := by
  rw [Pipeline.ΦDRG_eq, scopedRest0_eq, ownSems_eq, BI.bigSep_empty]
  unfold Pipeline.routed written
  rw [BI.bigSep_eq_bigSepL_of_eq [main_v0] (by decide) (by decide)]
  rfl

/-- The launch's proof data: the arrays as launched, each window left in place, the result at `W`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
  Φ t := Pipeline.ΦDRG ownSem spec0 ∅ written (V m) (W m t.val) c
  q _ := fullShare
  owed _ := 0

theorem A_eq (c : Dev nD) (w : Fin cfg0.W) : (dats m 0 c).A w = V m c (Pipeline.arrRef spec0 w) := by
  dsimp only [dats]

/-- Each window holds its block when the body starts. -/
theorem before0 (c : Dev nD) (t : Fin cfg0.N) (d) : (dats m 0 c).before 0 t d = iblk m c 0 t :=
  (Dat.before_fetched _ 0 t (fetch0_0 t) d).trans rfl
theorem before1 (c : Dev nD) (t : Fin cfg0.N) (d) : (dats m 0 c).before 1 t d = iblk m c 1 t :=
  (Dat.before_fetched _ 1 t (fetch0_1 t) d).trans rfl
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]

/-- What the body finds at the one grid step. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))
/-- What the body leaves there. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- The body carries the launch's data over the one grid step. -/
theorem sound_body (c : Dev nD) (t : Fin cfg0.N) :
    bodyPre m c t ⊢ wp frame (wpE (defs₀ (F := F)) Variants.none c none) Set.univ (bodyAt0 t) (fun _ => bodyPost m c t) := by
  rw [fin_N0 t]
  unfold bodyPre bodyPost bodyAt0
  rw [body_eq]
  rw [show (dats m 0 c).Φ (Fin.castSucc t0_0) = Pipeline.ΦDRG ownSem spec0 ∅ written (V m) (V m) c from rfl,
    show (dats m 0 c).Φ (Fin.succ t0_0) = Pipeline.ΦDRG ownSem spec0 ∅ written (V m) (G m) c from rfl, phi_eq, phi_eq]
  unfold Dat.owesAt Pipeline.owesWithin
  rw [show (dats m 0 c).owed (Fin.castSucc t0_0) = 0 from rfl, show (dats m 0 c).owed (Fin.succ t0_0) = 0 from rfl]
  simp only [before0, before1, after0, after1]
  rw [show G m c main_v0 = result (boxes m c) (corner m c) from Function.update_self ..]
  iintro ⟨⟨Hs, Hg, Hq, He, Ho⟩, ⟨%W, -, HW⟩, ⟨%d0, H0⟩, ⟨%d1, H1⟩⟩
  iapply (wp_body c (st0_0 t0_0) (st0_1 t0_0) (boxes m c) (corner m c) (V m c main_v0)) $$ [Hs Hq Ho HW H0 H1]
  · unfold Inputs
    isplitl [H0 H1]
    · isplitl [H0]; · iexact H0
      iexact H1
    isplitl [HW]
    · iexists W; iexact HW
    isplitr [Ho]
    · iapply (held_idle c)
      unfold Held
      isplitl [Hs]; · iexact Hs
      iexact Hq
    iexact Ho
  unfold Inputs
  iintro ⟨⟨H0, H1⟩, ⟨%W', HW⟩, HI, Ho⟩
  ihave HI := (idle_held c) $$ HI
  unfold Held
  icases HI with ⟨Hs, Hq⟩
  isplitl [Hs Hg Hq He Ho]
  · isplitl [Hs]; · iexact Hs
    isplitl [Hg]; · iexact Hg
    isplitl [Hq]; · iexact Hq
    isplitl [He]; · iexact He
    iexact Ho
  isplitl [HW]
  · iexists W'; isplitr
    · ipureintro; exact fun _ _ => Or.inl trivial
    iexact HW
  isplitl [H0]; · iexact H0
  iexact H1

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

set_option backward.isDefEq.respectTransparency.types false in
/-- The run, as the launch states it: the windows' arrays and the other buffers kept, the result at `G`. -/
theorem run_launch : θ_run defs (onTc (τ := τ) (main (F := F))) (s₀ m ρ)
    (fun r => Pipeline.FramePostRG cfgs (dats m) 0 written (V m) (G m) r ∧ r.2.sem = fun _ => 0) :=
  Pipeline.θ_run_frame_dmaRG (Q' := _) cfgs (dats m) (0 : Fin 1) launch0 ownSem defs₀ Variants.none ownSemFacts ∅ written
    (Finset.empty_subset _) written_sub m ρ main
    (hbody := fun c => (body_obligation m c).loose) (hshare := fun c => (dats m 0 c).share_full fun _ => rfl)
    (howed := fun _ _ => rfl) (V := V m) (hmain := hmain m Variants.none) (hA := A_eq m) (G := G m)
    (hin := fun _ => .rfl) (hout := fun c => .of_eq (congrArg (fun W => Pipeline.ΦDRG ownSem spec0 ∅ written (V m) W c) (if_neg (by rw [Fin.val_last, show cfg0.N = 1 from N_0]; decide))))

/-- The run: the result array ends at `result` of the boxes and the corner windows, the arguments as they began,
    every semaphore at zero. -/
theorem run : θ_run defs (onTc (τ := τ) (main (F := F))) ⟨m, fun _ => 0, ρ⟩ (fun r => (∀ c : Dev nD,
      r.2.mem ((c.tc : Thread nD τ).loc main_v0) = result (boxes m c) (corner m c)
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c =>
    ⟨(h.1.written c (Finset.mem_singleton_self main_v0)).trans (Function.update_self ..),
      ((h.1.1 c).1 1).trans (((dats m 0 c).arrAt_in 1 rfl _).trans (A_eq m c 1)),
      ((h.1.1 c).1 0).trans (((dats m 0 c).arrAt_in 0 rfl _).trans (A_eq m c 0))⟩, h.2⟩) (run_launch m ρ)

end Cert.Kernel.Hand

end
-- ==== Proof.Same.lean ====
/- The idealized program's text is the kernel's, so the kernel's run is its run. -/
module

public import proofs.«01_k».proof.Proof.Run
public import proofs.«01_k».proof.Proof.Gen.KernelIdeal

@[expose] public section

noncomputable section

namespace Cert.KernelIdeal.Hand

open Cert.KernelIdeal
open Idealize.ShloMosaic Idealize.ShloMosaic.TcCoe
open Idealize.SL.Sem

variable {F : FTy → Type} [FloatOps F]
variable (m : (ℓ : Loc nD τ sig) → Buf (Elt F) ℓ) (ρ : Dev nD → PrngReg)

/-- The two programs' body tables are one. -/
theorem defs₀_same : @Kernel.defs₀ F _ _ = @KernelIdeal.defs₀ F _ _ := by sl_kernel_rfl

/-- The two programs' whole tables are one. -/
theorem defs_same : @Kernel.defs F _ _ = @KernelIdeal.defs F _ _ := congrArg (Pipeline.defs pcfgs) defs₀_same

/-- The idealized program's run: the result array ends at `result` of the boxes and the corner windows, the arguments
    as they began, every semaphore at zero. -/
theorem run : θ_run defs (onTc (τ := τ) (main (F := F))) ⟨m, fun _ => 0, ρ⟩ (fun r => (∀ c : Dev nD,
      r.2.mem ((c.tc : Thread nD τ).loc main_v0) = Kernel.Hand.result (Kernel.Hand.boxes m c) (Kernel.Hand.corner m c)
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  rw [← defs_same]
  exact Kernel.Hand.run m ρ

end Cert.KernelIdeal.Hand

end
-- ==== Proof.Crop.lean ====
/- The mathematics both programs compute, in extended reals: where a box samples the image along one axis, and the
   blend of four corner features. -/
module

public import Idealize.ShloMosaic.PureOps.Ideal
public import Idealize.ShloMosaic.Lib.ValueIdx

@[expose] public section

noncomputable section

namespace Cert.Crop

open Idealize.ShloMosaic

/-- The sampling position number `j` between the scaled ends `p` and `q` of a box along one axis:
    `p·127 + j·((q − p)·127 / 13)`. -/
def spot (p q : EReal) (j : Fin 14) : EReal :=
  p * Ideal.ofBits .f32 0x42FE0000#32
    + (((BitVec.ofNat 32 j.val).toInt : ℝ) : EReal)
      * Ideal.div ((q - p) * Ideal.ofBits .f32 0x42FE0000#32) (Ideal.ofBits .f32 0x41500000#32)

/-- The bilinear blend of four corner values at the fractions `x` and `y`. -/
def blend (tl tr bl br x y : EReal) : EReal :=
  (tl + (tr - tl) * x) + ((bl + (br - bl) * x) - (tl + (tr - tl) * x)) * y

/-- The coordinate `e` scaled to the unit: `e` times the word of `1/512`. -/
def unit (e : EReal) : EReal := e * Ideal.ofBits .f32 0x3B000000#32

end Cert.Crop

end
-- ==== Proof.KernelValue.lean ====
/- The kernel's result read at one element, in extended reals. -/
module

public import proofs.«01_k».proof.Proof.Run
public import proofs.«01_k».proof.Proof.Crop
public import Idealize.ShloMosaic.Lib.Pointwise

@[expose] public section

noncomputable section

namespace Cert.Kernel.Hand

open Cert.Kernel Cert.Kernel.Gen Cert.Crop
open Idealize.ShloMosaic

/-- The vertical sampling positions of a chunk, from columns 1 and 3 of its boxes. -/
theorem pay3_apply (r : Vec Ideal S1x16x4 .f32) (n : Fin 16) (j : Fin 14) :
    k0_pay3 r (ix2 n j) = spot (unit (r (ix3 0 n 1))) (unit (r (ix3 0 n 3))) j := by
  unfold k0_pay3 k0_pay2 k0_pay1
  simp only [pointwise]
  simp
  rfl

/-- The horizontal sampling positions of a chunk, from columns 0 and 2 of its boxes. -/
theorem pay4_apply (r : Vec Ideal S1x16x4 .f32) (n : Fin 16) (j : Fin 14) :
    k0_pay4 r (ix2 n j) = spot (unit (r (ix3 0 n 0))) (unit (r (ix3 0 n 2))) j := by
  unfold k0_pay4 k0_pay2 k0_pay1
  simp only [pointwise]
  simp
  rfl

/-- A chunk's element is the blend of the four corner features at the two positions. -/
theorem pay5_apply (y x : FVec Ideal S16x14 .f32) (f : Vec Ideal S1x8x8x256 .f32) (n : Fin 16) (i j : Fin 14) (e : Fin 256) :
    k0_pay5 y x f (ix5 0 n i j e)
      = blend (f (ix4 0 0 0 e)) (f (ix4 0 0 1 e)) (f (ix4 0 1 0 e)) (f (ix4 0 1 1 e)) (x (ix2 n j)) (y (ix2 n i)) := by
  unfold k0_pay5 blend
  simp only [pointwise]
  simp
  rw [mul_comm (x _), mul_comm (x _), mul_comm (y _)]

/-- The boxes that the step writing `(b, n)` reads: row `n` of image `b`'s boxes lies in the step's row `n % 16`. -/
theorem roisAt_apply (R : Vec Ideal S4x128x4 .f32) (b : Fin 4) (n : Fin 128) (i j : Fin 14) (e : Fin 256) (q : Fin 4) :
    roisAt R (stepOf (ix5 b n i j e)) (ix3 0 ⟨n.val % 16, Nat.mod_lt n.val (Nat.succ_pos 15)⟩ q) = R (ix3 b n q) := by
  have hs : stepOf (ix5 b n i j e) = 8 * b.val + n.val / 16 := rfl
  rw [hs]
  refine congrArg R (funext fun a => Fin.ext ?_)
  fin_cases a
  · show (8 * b.val + n.val / 16) / 8 % 4 + 1 * 0 = b.val
    omega
  · show 16 * ((8 * b.val + n.val / 16) % 8) + 1 * (n.val % 16) = n.val
    omega
  · show 0 + 1 * q.val = q.val
    omega

/-- The feature window that the step writing `(b, n)` reads is image `b`'s. -/
theorem featAt_apply (X : Vec Ideal S4x8x8x256 .f32) (b : Fin 4) (n : Fin 128) (i j : Fin 14) (e : Fin 256)
    (y x : Fin 8) (e' : Fin 256) : featAt X (stepOf (ix5 b n i j e)) (ix4 0 y x e') = X (ix4 b y x e') := by
  have hs : stepOf (ix5 b n i j e) = 8 * b.val + n.val / 16 := rfl
  rw [hs]
  refine congrArg X (funext fun a => Fin.ext ?_)
  fin_cases a
  · show (8 * b.val + n.val / 16) / 8 % 4 + 1 * 0 = b.val
    omega
  · show 0 + 1 * y.val = y.val
    omega
  · show 0 + 1 * x.val = x.val
    omega
  · show 0 + 1 * e'.val = e'.val
    omega

/-- One element of the kernel's result: the blend of its image's four corner features at its box's sampling positions. -/
theorem result_apply (R : Vec Ideal S4x128x4 .f32) (X : Vec Ideal S4x8x8x256 .f32) (b : Fin 4) (n : Fin 128)
    (i j : Fin 14) (e : Fin 256) :
    result R X (ix5 b n i j e)
      = blend (X (ix4 b 0 0 e)) (X (ix4 b 0 1 e)) (X (ix4 b 1 0 e)) (X (ix4 b 1 1 e))
          (spot (unit (R (ix3 b n 0))) (unit (R (ix3 b n 2))) j)
          (spot (unit (R (ix3 b n 1))) (unit (R (ix3 b n 3))) i) := by
  have hl : locOf (ix5 b n i j e) = ix5 0 ⟨n.val % 16, Nat.mod_lt n.val (Nat.succ_pos 15)⟩ i j e := by
    funext a; fin_cases a <;> rfl
  unfold result blockAt chunk
  rw [hl]
  refine (pay5_apply ..).trans ?_
  rw [pay3_apply, pay4_apply]
  simp only [roisAt_apply, featAt_apply]

variable (m : (ℓ : Loc nD τ sig) → Buf (Elt Ideal) ℓ) (c : Dev nD)

/-- The boxes' window holds the boxes argument. -/
theorem boxes_apply (b : Fin 4) (n : Fin 128) (q : Fin 4) :
    boxes m c (ix3 b n q) = m ((c.tc : Thread nD τ).loc main_arg1) (ix3 b n q) := by
  refine congrArg (m ((c.tc : Thread nD τ).loc main_arg1)) (funext fun a => Fin.ext ?_)
  fin_cases a
  · show 0 + 1 * b.val = b.val
    omega
  · show 0 + 1 * n.val = n.val
    omega
  · show 0 + 1 * q.val = q.val
    omega

/-- The features' window holds the corner of the features argument. -/
theorem corner_apply (b : Fin 4) (y x : Fin 8) (e : Fin 256) :
    corner m c (ix4 b y x e)
      = m ((c.tc : Thread nD τ).loc main_arg0)
          (ix4 b (y.castLE (by decide : 8 ≤ 128)) (x.castLE (by decide : 8 ≤ 128)) e) := by
  refine congrArg (m ((c.tc : Thread nD τ).loc main_arg0)) (funext fun a => Fin.ext ?_)
  fin_cases a
  · show 0 + 1 * b.val = b.val
    omega
  · show 0 + 1 * y.val = y.val
    omega
  · show 0 + 1 * x.val = x.val
    omega
  · show 0 + 1 * e.val = e.val
    omega

end Cert.Kernel.Hand

end
-- ==== Proof.Fetch.lean ====
/- The reference's four reads of the image: a gather of one channel row per output pixel, at an index vector put
   together from the image's number, a row and a column. -/
module

public import proofs.«01_k».proof.Proof.Gen.ReferenceIdeal.Run
public import Idealize.ShloMosaic.Lib.Pointwise

@[expose] public section

noncomputable section

namespace Cert.ReferenceIdeal.Hand

open Cert.ReferenceIdeal Cert.ReferenceIdeal.Gen
open Idealize.ShloMosaic

variable {F : FTy → Type} [FloatOps F]

/-- How the reference's gathers read the image. -/
abbrev dims : GatherDims S4x128x128x256 S512x14x14x3 S512x14x14x256 :=
  gather_S4x128x128x256_S512x14x14x3_S512x14x14x256_3_012_n_n_012_3_111256

/-- Component `k` of the index vector of output pixel `(w, i, j)` starts the slice on axis `k`, if that is in range. -/
theorem start_eq (idx : IVec S512x14x14x3 32) (w : Fin 512) (i j : Fin 14) (e : Fin 256) (k : Fin 3) (v : ℕ)
    (hv : v < S4x128x128x256.size (k.castSucc : Fin 4)) (h : (idx (ix4 w i j k)).toInt.toNat = v) :
    GatherDims.start dims (ix4 w i j e) idx (k.castSucc : Fin 4) = v := by
  have hm : (k.castSucc : Fin 4) ∈ GatherDims.startIndexMap dims := by fin_cases k <;> decide
  have hsi : GatherDims.siIdx dims (ix4 w i j e)
      ⟨List.idxOf (k.castSucc : Fin 4) (GatherDims.startIndexMap dims), List.idxOf_lt_length_iff.2 hm⟩ = ix4 w i j k := by
    fin_cases k <;> (funext a; fin_cases a <;> rfl)
  unfold GatherDims.start
  rw [dif_pos hm, hsi, h]
  have hs : GatherDims.sliceSizes dims (k.castSucc : Fin 4) = 1 := by fin_cases k <;> rfl
  rw [hs]
  omega

/-- A gather reads the image at the index vector's three components and the output's channel. -/
theorem gather_eq (A : FVec F S4x128x128x256 .f32) (idx : IVec S512x14x14x3 32) (w : Fin 512) (i j : Fin 14) (e : Fin 256)
    (b : Fin 4) (y x : Fin 128) (hb : (idx (ix4 w i j 0)).toInt.toNat = b.val)
    (hy : (idx (ix4 w i j 1)).toInt.toNat = y.val) (hx : (idx (ix4 w i j 2)).toInt.toNat = x.val) :
    Host.gather dims A idx (ix4 w i j e) = A (ix4 b y x e) := by
  unfold Host.gather
  refine congrArg A (funext fun a => Fin.ext ?_)
  show GatherDims.start dims (ix4 w i j e) idx a + GatherDims.batchCoord dims (ix4 w i j e) a
    + GatherDims.offCoord dims (ix4 w i j e) a = _
  rw [GatherDims.batchCoord_eq_zero _ _ _ List.not_mem_nil]
  have ho : ∀ k : Fin 3, GatherDims.offCoord dims (ix4 w i j e) (k.castSucc : Fin 4) = 0 := fun k =>
    GatherDims.offCoord_eq_zero _ _ _ (fun h => ((GatherDims.mem_sKept _ _).mp h).1 (by fin_cases k <;> decide))
  fin_cases a
  · exact congrArg₂ (· + 0 + ·) (start_eq idx w i j e 0 b.val b.isLt hb) (ho 0)
  · exact congrArg₂ (· + 0 + ·) (start_eq idx w i j e 1 y.val y.isLt hy) (ho 1)
  · exact congrArg₂ (· + 0 + ·) (start_eq idx w i j e 2 x.val x.isLt hx) (ho 2)
  · have hs : GatherDims.start dims (ix4 w i j e) idx (3 : Fin 4) = 0 := by
      unfold GatherDims.start
      exact dif_neg (by decide)
    refine (congrArg (· + 0 + GatherDims.offCoord dims (ix4 w i j e) (3 : Fin 4)) hs).trans ?_
    show 0 + 0 + e.val = e.val
    omega

/-- Three arrays of one component each joined along the last axis: component `k` comes from the `k`-th of them. -/
theorem join_apply (p : Fin 3 → IVec S512x14x14x1 32) (w : Fin 512) (i j : Fin 14) (k : Fin 3) :
    concatenate S512x14x14x3 3 [⟨S512x14x14x1, p 0⟩, ⟨S512x14x14x1, p 1⟩, ⟨S512x14x14x1, p 2⟩]
        concatenates_S512x14x14x1_S512x14x14x1_S512x14x14x1_S512x14x14x3_d3 (ix4 w i j k)
      = p k (ix4 w i j 0) := by
  refine concatenate_apply_piece (t := S512x14x14x3) 3
    [⟨S512x14x14x1, p 0⟩, ⟨S512x14x14x1, p 1⟩, ⟨S512x14x14x1, p 2⟩] _ (ix4 w i j k) k.val k.isLt S512x14x14x1 (p k)
    ?_ rfl k.val ?_ (ix4 w i j 0) ?_ rfl
  · fin_cases k <;> rfl
  · fin_cases k <;> rfl
  intro b hb
  fin_cases b
  · rfl
  · rfl
  · rfl
  · exact absurd rfl hb

/-- The image numbers as one component of the index vectors, with 4 added where negative. -/
def images (B : IVec S512x1x1 32) : IVec S512x14x14x1 32 :=
  broadcastInDim S512x14x14x1 ![0, 1, 2] bcast_S512x14x14_S512x14x14x1_0_1_2
    (broadcastInDim S512x14x14 ![0, 1, 2] bcast_S512x1x1_S512x14x14_0_1_2
      (select (cmpi .slt B (broadcastInDim S512x1x1 ![] bcast_S_S512x1x1 (constantI S_ 32 0#32)))
        (addi B (broadcastInDim S512x1x1 ![] bcast_S_S512x1x1 (constantI S_ 32 4#32))) B))

/-- The rows as one component of the index vectors, with 128 added where negative. -/
def rows (Y : IVec S512x14x1 32) : IVec S512x14x14x1 32 :=
  broadcastInDim S512x14x14x1 ![0, 1, 2] bcast_S512x14x14_S512x14x14x1_0_1_2
    (broadcastInDim S512x14x14 ![0, 1, 2] bcast_S512x14x1_S512x14x14_0_1_2
      (select (cmpi .slt Y (broadcastInDim S512x14x1 ![] bcast_S_S512x14x1 (constantI S_ 32 0#32)))
        (addi Y (broadcastInDim S512x14x1 ![] bcast_S_S512x14x1 (constantI S_ 32 128#32))) Y))

/-- The columns as one component of the index vectors, with 128 added where negative. -/
def cols (X : IVec S512x1x14 32) : IVec S512x14x14x1 32 :=
  broadcastInDim S512x14x14x1 ![0, 1, 2] bcast_S512x14x14_S512x14x14x1_0_1_2
    (broadcastInDim S512x14x14 ![0, 1, 2] bcast_S512x1x14_S512x14x14_0_1_2
      (select (cmpi .slt X (broadcastInDim S512x1x14 ![] bcast_S_S512x1x14 (constantI S_ 32 0#32)))
        (addi X (broadcastInDim S512x1x14 ![] bcast_S_S512x1x14 (constantI S_ 32 128#32))) X))

/-- One read of the image: the gather at the index vectors made of image numbers `B`, rows `Y` and columns `X`. -/
def fetch (A : FVec F S4x128x128x256 .f32) (B : IVec S512x1x1 32) (Y : IVec S512x14x1 32) (X : IVec S512x1x14 32) :
    FVec F S512x14x14x256 .f32 :=
  Host.gather dims A (concatenate S512x14x14x3 3
    [⟨S512x14x14x1, images B⟩, ⟨S512x14x14x1, rows Y⟩, ⟨S512x14x14x1, cols X⟩]
    concatenates_S512x14x14x1_S512x14x14x1_S512x14x14x1_S512x14x14x3_d3)

/-- A word made of a small number is not negative, so it is kept, and it reads back as that number. -/
theorem keep_toNat (v : ℕ) (hv : v < 2 ^ 31) (z : BitVec 32) :
    (Scalar.select (IntOp.cmpi .slt (BitVec.ofNat 32 v) 0#32) z (BitVec.ofNat 32 v)).toInt.toNat = v := by
  have hi : (BitVec.ofNat 32 v).toInt = (v : ℤ) := by
    rw [BitVec.toInt_eq_toNat_of_lt (by rw [BitVec.toNat_ofNat]; omega), BitVec.toNat_ofNat]; omega
  unfold Scalar.select
  rw [if_neg, hi]
  · rfl
  · intro h
    have := IntOp.cmpi_slt.1 h
    rw [hi] at this
    simp at this
    omega

/-- A word of the images made of a number within the extent reads back as that number. -/
theorem images_apply (B : IVec S512x1x1 32) (w : Fin 512) (i j : Fin 14) (b : Fin 4)
    (h : B (ix3 w 0 0) = BitVec.ofNat 32 b.val) : (images B (ix4 w i j 0)).toInt.toNat = b.val := by
  unfold images
  simp only [pointwise]
  simp
  rw [h]
  exact keep_toNat b.val (by omega) _

/-- A word of the rows made of a number within the extent reads back as that number. -/
theorem rows_apply (Y : IVec S512x14x1 32) (w : Fin 512) (i j : Fin 14) (y : Fin 128)
    (h : Y (ix3 w i 0) = BitVec.ofNat 32 y.val) : (rows Y (ix4 w i j 0)).toInt.toNat = y.val := by
  unfold rows
  simp only [pointwise]
  simp
  rw [h]
  exact keep_toNat y.val (by omega) _

/-- A word of the columns made of a number within the extent reads back as that number. -/
theorem cols_apply (X : IVec S512x1x14 32) (w : Fin 512) (i j : Fin 14) (x : Fin 128)
    (h : X (ix3 w 0 j) = BitVec.ofNat 32 x.val) : (cols X (ix4 w i j 0)).toInt.toNat = x.val := by
  unfold cols
  simp only [pointwise]
  simp
  rw [h]
  exact keep_toNat x.val (by omega) _

/-- One read of the image at an element: the image at the three numbers the index words were made of. -/
theorem fetch_apply (A : FVec F S4x128x128x256 .f32) (B : IVec S512x1x1 32) (Y : IVec S512x14x1 32) (X : IVec S512x1x14 32)
    (w : Fin 512) (i j : Fin 14) (e : Fin 256) (b : Fin 4) (y x : Fin 128)
    (hb : B (ix3 w 0 0) = BitVec.ofNat 32 b.val) (hy : Y (ix3 w i 0) = BitVec.ofNat 32 y.val)
    (hx : X (ix3 w 0 j) = BitVec.ofNat 32 x.val) :
    fetch A B Y X (ix4 w i j e) = A (ix4 b y x e) := by
  have hj := join_apply ![images B, rows Y, cols X] w i j
  refine gather_eq A _ w i j e b y x ?_ ?_ ?_
  · exact (congrArg (fun z : BitVec 32 => z.toInt.toNat) (hj 0)).trans (images_apply B w i j b hb)
  · exact (congrArg (fun z : BitVec 32 => z.toInt.toNat) (hj 1)).trans (rows_apply Y w i j y hy)
  · exact (congrArg (fun z : BitVec 32 => z.toInt.toNat) (hj 2)).trans (cols_apply X w i j x hx)

end Cert.ReferenceIdeal.Hand

end
-- ==== Proof.Scalars.lean ====
/- Facts about single extended reals: the literal constants, the sampling positions of a box whose coordinates lie in
   [0, 4], and what the reference's rounding, clipping and comparing do to a position in [0, 1). -/
module

public import proofs.«01_k».proof.Proof.Crop
public import Idealize.ShloMosaic.Lib.IdealHost

@[expose] public section

noncomputable section

namespace Cert.Crop

open Idealize.ShloMosaic

/-! ## The literal constants -/

/-- The word of `1/512`. -/
theorem lit_inv512 : Ideal.ofBits .f32 0x3B000000#32 = ((1 / 512 : ℝ) : EReal) := by
  simp [Ideal.ofBits, Ideal.ieee, -EReal.coe_mul] <;> norm_num
/-- The word of `512`. -/
theorem lit_512 : Ideal.ofBits .f32 0x44000000#32 = ((512 : ℝ) : EReal) := by
  simp [Ideal.ofBits, Ideal.ieee, -EReal.coe_mul] <;> norm_num
/-- The word of `127`. -/
theorem lit_127 : Ideal.ofBits .f32 0x42FE0000#32 = ((127 : ℝ) : EReal) := by
  simp [Ideal.ofBits, Ideal.ieee, -EReal.coe_mul] <;> norm_num
/-- The word of `13`. -/
theorem lit_13 : Ideal.ofBits .f32 0x41500000#32 = ((13 : ℝ) : EReal) := by
  simp [Ideal.ofBits, Ideal.ieee, -EReal.coe_mul] <;> norm_num
/-- The word of `4`. -/
theorem lit_4 : Ideal.ofBits .f32 0x40800000#32 = ((4 : ℝ) : EReal) := by
  simp [Ideal.ofBits, Ideal.ieee, -EReal.coe_mul] <;> norm_num

/-- Dividing by `512` is multiplying by `1/512`, at every extended real. -/
theorem div_512 (e : EReal) : Ideal.div e (Ideal.ofBits .f32 0x44000000#32) = unit e := by
  rw [lit_512, Ideal.div_coe (by norm_num), unit, lit_inv512]

/-! ## Positions -/

/-- `e` is a real number in [0, 4]. -/
def InBox (e : EReal) : Prop := ∃ r : ℝ, 0 ≤ r ∧ r ≤ 4 ∧ e = r
/-- `e` is a real number in [0, 1). -/
def InCell (e : EReal) : Prop := ∃ r : ℝ, 0 ≤ r ∧ r < 1 ∧ e = r

/-- An extended real between the words of 0 and 4 is a real in [0, 4]. -/
theorem inBox_of_le {e : EReal} (h0 : Ideal.ofBits .f32 0x00000000#32 ≤ e) (h4 : e ≤ Ideal.ofBits .f32 0x40800000#32) :
    InBox e := by
  rw [Ideal.ofBits_zero_f32] at h0
  rw [lit_4] at h4
  induction e with
  | bot => exact absurd h0 (by simp)
  | top => exact absurd h4 (by simp)
  | coe r => exact ⟨r, by exact_mod_cast h0, by exact_mod_cast h4, rfl⟩

/-- A box with both ends in [0, 4] samples inside the first cell of the grid: its positions lie between
    `127·0/512` and `127·4/512`, which is below 1. -/
theorem spot_inCell {a b : EReal} (ha : InBox a) (hb : InBox b) (j : Fin 14) : InCell (spot (unit a) (unit b) j) := by
  obtain ⟨r, hr0, hr4, rfl⟩ := ha
  obtain ⟨s, hs0, hs4, rfl⟩ := hb
  have hj : (BitVec.ofNat 32 j.val).toInt = (j.val : ℤ) := by
    rw [BitVec.toInt_eq_toNat_of_lt (by rw [BitVec.toNat_ofNat]; omega), BitVec.toNat_ofNat]; omega
  have hj13 : (j.val : ℝ) ≤ 13 := by exact_mod_cast Nat.le_of_lt_succ j.isLt
  have hj0 : (0 : ℝ) ≤ (j.val : ℝ) := Nat.cast_nonneg _
  refine ⟨r * (1 / 512) * 127 + j.val * ((s * (1 / 512) - r * (1 / 512)) * 127 * (1 / 13)), ?_, ?_, ?_⟩
  · have e : r * (1 / 512) * 127 + j.val * ((s * (1 / 512) - r * (1 / 512)) * 127 * (1 / 13))
        = 127 / 6656 * (r * (13 - j.val) + s * j.val) := by ring
    rw [e]
    have := mul_nonneg hr0 (sub_nonneg.2 hj13)
    have := mul_nonneg hs0 hj0
    positivity
  · have e : r * (1 / 512) * 127 + j.val * ((s * (1 / 512) - r * (1 / 512)) * 127 * (1 / 13))
        = 127 / 6656 * (r * (13 - j.val) + s * j.val) := by ring
    rw [e]
    have h1 := mul_le_mul_of_nonneg_right hr4 (sub_nonneg.2 hj13)
    have h2 := mul_le_mul_of_nonneg_right hs4 hj0
    nlinarith
  · unfold spot unit
    rw [hj, lit_127, lit_13, lit_inv512, Ideal.div_coe (by norm_num)]
    norm_cast

/-! ## Rounding and clipping a position of the first cell -/

/-- Its floor is zero. -/
theorem floor_inCell {e : EReal} (h : InCell e) : Ideal.liftRound Int.floor e = 0 := by
  obtain ⟨r, h0, h1, rfl⟩ := h
  rw [Ideal.liftRound_coe, Int.floor_eq_zero_iff.2 ⟨h0, h1⟩]
  norm_num

/-- Clipping zero into [0, 127] and converting to a word gives zero. -/
theorem clip_zero :
    Ideal.fptosi 32 (min ((((127#32 : BitVec 32).toInt : ℝ)) : EReal) (max ((((0#32 : BitVec 32).toInt : ℝ)) : EReal) 0)) = 0#32 := by
  have h : min ((((127#32 : BitVec 32).toInt : ℝ)) : EReal) (max ((((0#32 : BitVec 32).toInt : ℝ)) : EReal) 0) = ((0 : ℝ) : EReal) := by
    rw [show (127#32 : BitVec 32).toInt = 127 from rfl, show (0#32 : BitVec 32).toInt = 0 from rfl]
    norm_num
  rw [h, Ideal.fptosi, Ideal.toIntClamped_coe]
  norm_num

/-- Clipping one into [0, 127] and converting to a word gives one. -/
theorem clip_one :
    Ideal.fptosi 32 (min ((((127#32 : BitVec 32).toInt : ℝ)) : EReal) (max ((((0#32 : BitVec 32).toInt : ℝ)) : EReal) (0 + Ideal.ofBits .f32 0x3F800000#32))) = 1#32 := by
  rw [Ideal.ofBits_one_f32]
  have h : min ((((127#32 : BitVec 32).toInt : ℝ)) : EReal) (max ((((0#32 : BitVec 32).toInt : ℝ)) : EReal) (0 + 1)) = ((1 : ℝ) : EReal) := by
    rw [show (127#32 : BitVec 32).toInt = 127 from rfl, show (0#32 : BitVec 32).toInt = 0 from rfl]
    norm_num
    exact_mod_cast (by norm_num : (1 : ℝ) ≤ 127)
  rw [h, Ideal.fptosi, Ideal.toIntClamped_coe]
  norm_num

/-- A position of the first cell passes the test `0 ≤ ·`. -/
theorem oge_inCell {e : EReal} (h : InCell e) : Ideal.cmp .oge e (Ideal.ofBits .f32 0x00000000#32) = 1#1 := by
  obtain ⟨r, h0, h1, rfl⟩ := h
  rw [Ideal.ofBits_zero_f32]
  have : (0 : EReal) ≤ (r : EReal) := by exact_mod_cast h0
  simp [Ideal.cmp, this]

/-- A position of the first cell passes the test `· ≤ 127`. -/
theorem ole_inCell {e : EReal} (h : InCell e) : Ideal.cmp .ole e (Ideal.ofBits .f32 0x42FE0000#32) = 1#1 := by
  obtain ⟨r, h0, h1, rfl⟩ := h
  rw [lit_127]
  have : (r : EReal) ≤ ((127 : ℝ) : EReal) := by exact_mod_cast (by linarith : r ≤ 127)
  simp [Ideal.cmp, this]

end Cert.Crop

end
-- ==== Proof.ReferenceValue.lean ====
/- The reference's result read at one element, in extended reals, when every box coordinate lies in [0, 4]. -/
module

public import proofs.«01_k».proof.Proof.Fetch
public import proofs.«01_k».proof.Proof.Scalars

@[expose] public section

noncomputable section

namespace Cert.ReferenceIdeal.Hand

open Cert.ReferenceIdeal Cert.ReferenceIdeal.Gen Cert.ReferenceIdeal.Value Cert.Crop
open Idealize.ShloMosaic Idealize.ShloMosaic.Tactic

variable (V : Valuation τ sig (Elt Ideal))

/-- The features argument. -/
abbrev feats : FVec Ideal S4x128x128x256 .f32 := V (Proc.devRef .tc main_arg0)
/-- The boxes argument. -/
abbrev rois : FVec Ideal S4x128x4 .f32 := V (Proc.devRef .tc main_arg1)

/-- The image that flat row `w` belongs to. -/
abbrev img (w : Fin 512) : Fin 4 := ⟨w.val / 128, by omega⟩
/-- The box of its image that flat row `w` is. -/
abbrev box (w : Fin 512) : Fin 128 := ⟨w.val % 128, by omega⟩

/-- Four arrays of one component each joined along the last axis: component `k` comes from the `k`-th of them. -/
theorem join4_apply (p₀ p₁ p₂ p₃ : FVec Ideal S4x128x1 .f32) (b : Fin 4) (n : Fin 128) (k : Fin 4) :
    concatenate S4x128x4 2 [⟨S4x128x1, p₀⟩, ⟨S4x128x1, p₁⟩, ⟨S4x128x1, p₂⟩, ⟨S4x128x1, p₃⟩]
        concatenates_S4x128x1_S4x128x1_S4x128x1_S4x128x1_S4x128x4_d2 (ix3 b n k)
      = (![p₀, p₁, p₂, p₃] : Fin 4 → FVec Ideal S4x128x1 .f32) k (ix3 b n 0) := by
  refine concatenate_apply_piece (t := S4x128x4) 2
    [⟨S4x128x1, p₀⟩, ⟨S4x128x1, p₁⟩, ⟨S4x128x1, p₂⟩, ⟨S4x128x1, p₃⟩] _ (ix3 b n k) k.val k.isLt S4x128x1 _
    ?_ rfl k.val ?_ (ix3 b n 0) ?_ rfl
  · fin_cases k <;> rfl
  · fin_cases k <;> rfl
  · intro a ha
    fin_cases a
    · rfl
    · rfl
    · exact absurd rfl ha

/-- A box's coordinates, each divided by 512, in the order top, left, bottom, right. -/
theorem v13_apply (w : Fin 512) (k : Fin 4) :
    res_main_v13 V (ix2 w k) = unit (rois V (ix3 (img w) (box w) ((![1, 0, 3, 2] : Fin 4 → Fin 4) k))) := by
  rw [← div_512]
  unfold res_main_v13
  rw [shapeCast_apply _ _ _ (ix3 (img w) (box w) k) ?_, join4_apply]
  · fin_cases k <;> (simp; simp only [pointwise]; simp)
  · refine (Shape.rowMajor_val_three _).trans (Eq.trans ?_ (Shape.rowMajor_val_two _).symm)
    show (w.val / 128 * 128 + w.val % 128) * 4 + k.val = w.val * 4 + k.val
    omega

/-- The tops of the boxes. -/
theorem v18_apply (w : Fin 512) : res_main_v18 V (ix1 w) = unit (rois V (ix3 (img w) (box w) 1)) := by
  refine Eq.trans ?_ (v13_apply V w 0)
  unfold res_main_v18
  simp only [pointwise]
  simp

/-- The left ends of the boxes. -/
theorem v20_apply (w : Fin 512) : res_main_v20 V (ix1 w) = unit (rois V (ix3 (img w) (box w) 0)) := by
  refine Eq.trans ?_ (v13_apply V w 1)
  unfold res_main_v20
  simp only [pointwise]
  simp

/-- The vertical sampling positions. -/
theorem v45_apply (w : Fin 512) (i : Fin 14) :
    res_main_v45 V (ix2 w i)
      = spot (unit (rois V (ix3 (img w) (box w) 1))) (unit (rois V (ix3 (img w) (box w) 3))) i := by
  unfold res_main_v45 spot
  simp only [pointwise]
  simp [v18_apply, v13_apply]
  rfl

/-- The horizontal sampling positions. -/
theorem v56_apply (w : Fin 512) (i : Fin 14) :
    res_main_v56 V (ix2 w i)
      = spot (unit (rois V (ix3 (img w) (box w) 0))) (unit (rois V (ix3 (img w) (box w) 2))) i := by
  unfold res_main_v56 spot
  simp only [pointwise]
  simp [v20_apply, v13_apply]
  rfl

/-! ## With every box coordinate in [0, 4] -/

variable (h : ∀ k, InBox (rois V k))
include h

/-- The vertical sampling positions lie in the first cell. -/
theorem v45_inCell (w : Fin 512) (i : Fin 14) : InCell (res_main_v45 V (ix2 w i)) := by
  rw [v45_apply]
  exact spot_inCell (h _) (h _) i

/-- The horizontal sampling positions lie in the first cell. -/
theorem v56_inCell (w : Fin 512) (i : Fin 14) : InCell (res_main_v56 V (ix2 w i)) := by
  rw [v56_apply]
  exact spot_inCell (h _) (h _) i

/-- The vertical positions' floors are zero. -/
theorem v67_apply (w : Fin 512) (i : Fin 14) : res_main_v67 V (ix2 w i) = (0 : EReal) :=
  floor_inCell (v45_inCell V h w i)

/-- The horizontal positions' floors are zero. -/
theorem v68_apply (w : Fin 512) (i : Fin 14) : res_main_v68 V (ix2 w i) = (0 : EReal) :=
  floor_inCell (v56_inCell V h w i)

/-- So a horizontal position's fraction is the position. -/
theorem v70_apply (w : Fin 512) (i : Fin 14) : res_main_v70 V (ix2 w i) = res_main_v56 V (ix2 w i) :=
  (congrArg (fun z : EReal => (id (res_main_v56 V (ix2 w i)) : EReal) - z) (v68_apply V h w i)).trans (sub_zero _)

/-- The upper rows are row 0. -/
theorem v72_apply (w : Fin 512) (i : Fin 14) : res_main_v72 V (ix2 w i) = 0#32 := by
  refine Eq.trans ?_ clip_zero
  rw [← v67_apply V h w i]
  rfl

/-- The lower rows are row 1. -/
theorem v76_apply (w : Fin 512) (i : Fin 14) : res_main_v76 V (ix2 w i) = 1#32 := by
  refine Eq.trans ?_ clip_one
  rw [← v67_apply V h w i]
  rfl

/-- The left columns are column 0. -/
theorem v78_apply (w : Fin 512) (i : Fin 14) : res_main_v78 V (ix2 w i) = 0#32 := by
  refine Eq.trans ?_ clip_zero
  rw [← v68_apply V h w i]
  rfl

/-- The right columns are column 1. -/
theorem v82_apply (w : Fin 512) (i : Fin 14) : res_main_v82 V (ix2 w i) = 1#32 := by
  refine Eq.trans ?_ clip_one
  rw [← v68_apply V h w i]
  rfl

omit h in
/-- A flat row's image number. -/
theorem v83_apply (w : Fin 512) : res_main_v83 V (ix3 w 0 0) = BitVec.ofNat 32 (img w).val := by
  unfold res_main_v83
  simp only [pointwise]
  simp

/-- The upper left corner features. -/
theorem v108_apply (w : Fin 512) (i j : Fin 14) (e : Fin 256) :
    res_main_v108 V (ix4 w i j e) = feats V (ix4 (img w) 0 0 e) :=
  fetch_apply (feats V) (res_main_v83 V) (res_main_v84 V) (res_main_v85 V) w i j e (img w) 0 0 (v83_apply V w)
    (v72_apply V h w i) (v78_apply V h w j)

/-- The lower left corner features. -/
theorem v158_apply (w : Fin 512) (i j : Fin 14) (e : Fin 256) :
    res_main_v158 V (ix4 w i j e) = feats V (ix4 (img w) 1 0 e) :=
  fetch_apply (feats V) (res_main_v83 V) (res_main_v134 V) (res_main_v135 V) w i j e (img w) 1 0 (v83_apply V w)
    (v76_apply V h w i) (v78_apply V h w j)

/-- The upper right corner features. -/
theorem upperRight_apply (w : Fin 512) (i j : Fin 14) (e : Fin 256) :
    fetch (feats V) (res_main_v83 V) (res_main_v109 V) (res_main_v110 V) (ix4 w i j e) = feats V (ix4 (img w) 0 1 e) :=
  fetch_apply (feats V) (res_main_v83 V) (res_main_v109 V) (res_main_v110 V) w i j e (img w) 0 1 (v83_apply V w)
    (v72_apply V h w i) (v82_apply V h w j)

/-- The lower right corner features. -/
theorem lowerRight_apply (w : Fin 512) (i j : Fin 14) (e : Fin 256) :
    fetch (feats V) (res_main_v83 V) (res_main_v159 V) (res_main_v160 V) (ix4 w i j e) = feats V (ix4 (img w) 1 1 e) :=
  fetch_apply (feats V) (res_main_v83 V) (res_main_v159 V) (res_main_v160 V) w i j e (img w) 1 1 (v83_apply V w)
    (v76_apply V h w i) (v82_apply V h w j)

/-- The upper features blended along the row. -/
theorem v188_apply (w : Fin 512) (i j : Fin 14) (e : Fin 256) :
    res_main_v188 V (ix4 w i j e)
      = (feats V (ix4 (img w) 0 0 e) : EReal) + ((feats V (ix4 (img w) 0 1 e) : EReal) - (feats V (ix4 (img w) 0 0 e) : EReal))
          * (res_main_v56 V (ix2 w j) : EReal) := by
  rw [← v70_apply V h w j, ← upperRight_apply V h w i j e, ← v108_apply V h w i j e]
  rfl

/-- The mask is one everywhere. -/
theorem mask_apply (w : Fin 512) (i j : Fin 14) :
    andi
      (broadcastInDim S512x14x14 ![0, 1, 2] bcast_S512x14x1_S512x14x14_0_1_2
        (broadcastInDim S512x14x1 ![0, 1] bcast_S512x14_S512x14x1_0_1
          (andi (cmpf .oge (res_main_v45 V) (broadcastInDim S512x14 ![] bcast_S_S512x14 (constant S_ .f32 0x00000000#32)))
            (cmpf .ole (res_main_v45 V) (broadcastInDim S512x14 ![] bcast_S_S512x14 (constant S_ .f32 0x42FE0000#32))))))
      (broadcastInDim S512x14x14 ![0, 1, 2] bcast_S512x1x14_S512x14x14_0_1_2
        (broadcastInDim S512x1x14 ![0, 2] bcast_S512x14_S512x1x14_0_2
          (andi (cmpf .oge (res_main_v56 V) (broadcastInDim S512x14 ![] bcast_S_S512x14 (constant S_ .f32 0x00000000#32)))
            (cmpf .ole (res_main_v56 V) (broadcastInDim S512x14 ![] bcast_S_S512x14 (constant S_ .f32 0x42FE0000#32))))))
      (ix3 w i j) = 1#1 := by
  have hy0 := oge_inCell (v45_inCell V h w i)
  have hy1 := ole_inCell (v45_inCell V h w i)
  have hx0 := oge_inCell (v56_inCell V h w j)
  have hx1 := ole_inCell (v56_inCell V h w j)
  have e : ∀ a b c d : BitVec 1, a = 1#1 → b = 1#1 → c = 1#1 → d = 1#1 →
      IntOp.andi (IntOp.andi a b) (IntOp.andi c d) = 1#1 := by
    rintro _ _ _ _ rfl rfl rfl rfl; rfl
  exact e _ _ _ _ hy0 hy1 hx0 hx1

/-- The reference's result at row `w`: the blend of its image's four corner features at its sampling positions. -/
theorem flat_apply (w : Fin 512) (i j : Fin 14) (e : Fin 256) (M : FVec Ideal S512x14x14 .f32) (hM : M (ix3 w i j) = (1 : EReal)) :
    mulf (addf (res_main_v188 V) (mulf (subf (addf (res_main_v158 V)
        (mulf (subf (fetch (feats V) (res_main_v83 V) (res_main_v159 V) (res_main_v160 V)) (res_main_v158 V))
          (broadcastInDim S512x14x14x256 ![0, 1, 2, 3] bcast_S512x1x14x1_S512x14x14x256_0_1_2_3
            (broadcastInDim S512x1x14x1 ![0, 2] bcast_S512x14_S512x1x14x1_0_2 (res_main_v70 V))))) (res_main_v188 V))
        (broadcastInDim S512x14x14x256 ![0, 1, 2, 3] bcast_S512x14x1x1_S512x14x14x256_0_1_2_3
          (broadcastInDim S512x14x1x1 ![0, 1] bcast_S512x14_S512x14x1x1_0_1 (subf (res_main_v45 V) (res_main_v67 V))))))
      (broadcastInDim S512x14x14x256 ![0, 1, 2, 3] bcast_S512x14x14x1_S512x14x14x256_0_1_2_3
        (broadcastInDim S512x14x14x1 ![0, 1, 2] bcast_S512x14x14_S512x14x14x1_0_1_2 M)) (ix4 w i j e)
      = blend (feats V (ix4 (img w) 0 0 e)) (feats V (ix4 (img w) 0 1 e)) (feats V (ix4 (img w) 1 0 e))
          (feats V (ix4 (img w) 1 1 e))
          (spot (unit (rois V (ix3 (img w) (box w) 0))) (unit (rois V (ix3 (img w) (box w) 2))) j)
          (spot (unit (rois V (ix3 (img w) (box w) 1))) (unit (rois V (ix3 (img w) (box w) 3))) i) := by
  simp only [pointwise]
  simp
  rw [hM, v67_apply V h, v70_apply V h, v188_apply V h, v158_apply V h, lowerRight_apply V h, ← v56_apply, ← v45_apply]
  unfold blend
  rw [mul_one]
  exact congrArg _ (congrArg _ (sub_zero _))

/-- Flat row `128·b + n`. -/
abbrev flatRow (b : Fin 4) (n : Fin 128) : Fin 512 := ⟨b.val * 128 + n.val, by omega⟩

omit h in
/-- The flat result given the shape of the boxes, at box `n` of image `b`, is the flat result at its row. -/
theorem unflat_apply (x : FVec Ideal S512x14x14x256 .f32) (b : Fin 4) (n : Fin 128) (i j : Fin 14) (e : Fin 256) :
    shapeCast S4x128x14x14x256 x shapeCasts_S512x14x14x256_S4x128x14x14x256 (ix5 b n i j e) = x (ix4 (flatRow b n) i j e) := by
  simp only [pointwise]

end Cert.ReferenceIdeal.Hand

end
-- ==== Proof.Equal.lean ====
/- Both results are one function of the features and the boxes, when every box coordinate lies in [0, 4]. -/
module

public import proofs.«01_k».proof.Pre_rois_in_range
public import proofs.«01_k».proof.Proof.KernelValue
public import proofs.«01_k».proof.Proof.ReferenceValue
public import Idealize.ShloMosaic.Lib.ReduceAll

@[expose] public section

noncomputable section

open Idealize.ShloMosaic

namespace Cert.Crop

/-- The crops: at box `n` of image `b`, row `i`, column `j` and channel `e`, the blend of the image's four corner
    features at the box's sampling positions. -/
def crop (f : FVec Ideal ⟨4, ![4, 128, 128, 256]⟩ .f32) (r : FVec Ideal ⟨3, ![4, 128, 4]⟩ .f32)
    (b : Fin 4) (n : Fin 128) (i j : Fin 14) (e : Fin 256) : EReal :=
  blend (f (ix4 b 0 0 e)) (f (ix4 b 0 1 e)) (f (ix4 b 1 0 e)) (f (ix4 b 1 1 e))
    (spot (unit (r (ix3 b n 0))) (unit (r (ix3 b n 2))) j) (spot (unit (r (ix3 b n 1))) (unit (r (ix3 b n 3))) i)

/-- The precondition says that every box coordinate lies in [0, 4]. -/
theorem inBox_of_pre [Cert.Pre_rois_in_range.Facts] {f : FVec Ideal ⟨4, ![4, 128, 128, 256]⟩ .f32}
    {r : FVec Ideal ⟨3, ![4, 128, 4]⟩ .f32} (h : Cert.Pre_rois_in_range.fn (F := Ideal) f r = fun _ => 1#1)
    (k : (⟨3, ![4, 128, 4]⟩ : Shape).Idx) : InBox (r k) := by
  have : Subsingleton Cert.Pre_rois_in_range.S_.Idx := ⟨fun a b => funext fun i => i.elim0⟩
  have hk := Host.reduce_andi_all _ _ _ _ _ (congrFun h fun i => i.elim0) k
  obtain ⟨h0, h4⟩ := IntOp.andi_eq_one.1 hk
  have t : ∀ p : Prop, [Decidable p] → BitVec.ofBool (decide p) = 1#1 → p := by
    intro p _ e
    by_contra hp
    simp [hp] at e
  exact inBox_of_le (t _ h0) (t _ h4)

end Cert.Crop

namespace Cert.Kernel.Hand

open Cert.Kernel Cert.Crop

variable (m : (ℓ : Loc nD τ sig) → Buf (Elt Ideal) ℓ) (c : Dev nD)

/-- The kernel's result is the crops. -/
theorem result_eq_crop (b : Fin 4) (n : Fin 128) (i j : Fin 14) (e : Fin 256) :
    result (boxes m c) (corner m c) (ix5 b n i j e)
      = crop (m ((c.tc : Thread nD τ).loc main_arg0)) (m ((c.tc : Thread nD τ).loc main_arg1)) b n i j e := by
  rw [result_apply]
  simp only [boxes_apply, corner_apply]
  rfl

end Cert.Kernel.Hand

namespace Cert.ReferenceIdeal.Hand

open Cert.ReferenceIdeal Cert.Crop Idealize.SL.Sem Idealize.ShloMosaic.StableHlo

/-- The one-bit word 1 as a real number is 1. -/
theorem mask_one {x : BitVec 1} (h : x = 1#1) : ((x.toNat : ℝ) : EReal) = 1 := by
  subst h
  simp

/-- The image of flat row `128·b + n` is `b`. -/
theorem img_flatRow (b : Fin 4) (n : Fin 128) : img (flatRow b n) = b :=
  Fin.ext (by show (b.val * 128 + n.val) / 128 = b.val; omega)

/-- The box of flat row `128·b + n` is `n`. -/
theorem box_flatRow (b : Fin 4) (n : Fin 128) : box (flatRow b n) = n :=
  Fin.ext (by show (b.val * 128 + n.val) % 128 = n.val; omega)

variable (m : (ℓ : Loc nD τ sig) → Buf (Elt Ideal) ℓ) (ρ : Dev nD → PrngReg)

/-- The reference's run: where every box coordinate lies in [0, 4], its result is the crops; its arguments end as they
    began. -/
theorem run_crop (h : ∀ (c : Dev nD) k, InBox ((m ((c.tc : Thread nD τ).loc main_arg1) : FVec Ideal S4x128x4 .f32) k)) :
    θ_run defs (onTc (τ := τ) (main (F := Ideal))) ⟨m, fun _ => 0, ρ⟩ (fun r => ∀ c : Dev nD,
      (∀ b n i j e, (r.2.mem ((c.tc : Thread nD τ).loc main_v208) : FVec Ideal S4x128x14x14x256 .f32) (ix5 b n i j e)
        = crop (m ((c.tc : Thread nD τ).loc main_arg0)) (m ((c.tc : Thread nD τ).loc main_arg1)) b n i j e)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r hr c => ⟨fun b n i j e => ?_, (hr c).2⟩) (Value.run m ρ)
  refine (congrFun (hr c).1 (ix5 b n i j e)).trans ((unflat_apply _ b n i j e).trans ?_)
  refine (flat_apply (launchContents m c) (h c) (flatRow b n) i j e _
    (mask_one (mask_apply (launchContents m c) (h c) (flatRow b n) i j))).trans ?_
  rw [img_flatRow, box_flatRow]
  rfl

end Cert.ReferenceIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_rois_in_range
public import proofs.«01_k».proof.Proof.Run
public import proofs.«01_k».proof.Proof.Same
public import proofs.«01_k».proof.Proof.Equal
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel leaves its arguments unchanged and every semaphore at zero. -/
theorem quiescent_kernel : Cert.quiescent_Kernel := fun m g _ =>
  (θ_run _ _ _).mono (fun _ h => ⟨fun c => (h.1 c).2, h.2⟩) (Cert.Kernel.Hand.run m g)

/-- The idealized kernel leaves its arguments unchanged and every semaphore at zero. -/
theorem quiescent_kernelIdeal : Cert.quiescent_KernelIdeal := fun m g _ =>
  (θ_run _ _ _).mono (fun _ h => ⟨fun c => (h.1 c).2, h.2⟩) (Cert.KernelIdeal.Hand.run m g)

/-- The reference leaves its arguments unchanged; it declares no semaphore. -/
theorem quiescent_referenceIdeal : Cert.quiescent_ReferenceIdeal := fun m g _ =>
  (θ_run _ _ _).mono (fun _ h => ⟨fun c => (h c).2, sem_eq_zero_of_no_sems rfl _⟩) (Cert.ReferenceIdeal.Value.run m g)

/-- Where every box coordinate lies in [0, 4], the idealized kernel and the reference end with equal results. -/
theorem algebraic : Cert.algebraic_KernelIdeal_ReferenceIdeal_pre_rois_in_range := by
  intro m g m' g' hpre hargs
  refine ⟨fun c => Cert.Kernel.Hand.result (Cert.Kernel.Hand.boxes m c) (Cert.Kernel.Hand.corner m c),
    (θ_run _ _ _).mono (fun _ h => h.1) (Cert.KernelIdeal.Hand.run m g), ?_⟩
  have hbox : ∀ (c : Dev Cert.ReferenceIdeal.nD) k, Cert.Crop.InBox
      ((m' ((c.tc : Thread Cert.ReferenceIdeal.nD Cert.ReferenceIdeal.τ).loc Cert.ReferenceIdeal.main_arg1)
        : FVec Ideal Cert.ReferenceIdeal.S4x128x4 .f32) k) := by
    intro c
    rw [(hargs c).2]
    exact Cert.Crop.inBox_of_pre (hpre c)
  refine (θ_run _ _ _).mono (fun r h c => ⟨funext fun k => ?_, (h c).2⟩) (Cert.ReferenceIdeal.Hand.run_crop m' g' hbox)
  have hk : k = ix5 (k 0) (k 1) (k 2) (k 3) (k 4) := ValueIdx.eq_ix5 k
  rw [hk]
  refine ((h c).1 (k 0) (k 1) (k 2) (k 3) (k 4)).trans (Eq.trans ?_
    (Cert.Kernel.Hand.result_eq_crop m c (k 0) (k 1) (k 2) (k 3) (k 4)).symm)
  rw [(hargs c).1, (hargs c).2]

/-- Every claim of the certificate. -/
theorem claim : Cert.Claim :=
  ⟨Cert.Kernel.Gen.facts, Cert.KernelIdeal.Gen.facts, Cert.ReferenceIdeal.Gen.facts, Cert.Pre_rois_in_range.Gen.facts,
    quiescent_kernel, quiescent_kernelIdeal, fun m g _ => quiescent_kernelIdeal m g trivial,
    quiescent_referenceIdeal, fun m g _ => quiescent_referenceIdeal m g trivial, trivial, algebraic⟩

end Cert.Proof

end
